-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S256x512 .f32) (main_arg1 : FVec F S512x8192 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x8192 : Shape := ⟨2, ![256, 8192]⟩
abbrev S256x4096 : Shape := ⟨2, ![256, 4096]⟩
abbrev S256x2048 : Shape := ⟨2, ![256, 2048]⟩
abbrev S6 : Shape := ⟨1, ![6]⟩
abbrev S_ : Shape := ⟨0, ![]⟩
abbrev S512x128 : Shape := ⟨2, ![512, 128]⟩
abbrev S256x128 : Shape := ⟨2, ![256, 128]⟩
abbrev S1 : Shape := ⟨1, ![1]⟩
abbrev S512x384 : Shape := ⟨2, ![512, 384]⟩
abbrev S256x384 : Shape := ⟨2, ![256, 384]⟩
abbrev S512x512 : Shape := ⟨2, ![512, 512]⟩
abbrev S256x1 : Shape := ⟨2, ![256, 1]⟩
abbrev S256 : Shape := ⟨1, ![256]⟩

abbrev nBuf : Space → Nat
  | .hbm => 3
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S512x4096, .f32⟩
  | .local _ .vmem, ⟨2, _⟩ => ⟨S256x8192, .f32⟩
  | .local _ .vmem, ⟨3, _⟩ => ⟨S256x4096, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_16 : BitVec 32) : Fin 2 → Nat :=
  let c0_18 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v23 : BitVec 32 := Scalar.addi v17 c0_i32_16
  let v26 : Index := Scalar.indexCast v23
  ![0, v26.toNat]
def k0_off2 (d0 : Dev nD) (c0_i32_16 : BitVec 32) : Fin 2 → Nat :=
  let c0_19 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v23 : BitVec 32 := Scalar.addi v17 c0_i32_16
  let v30 : Index := Scalar.indexCast v23
  ![0, v30.toNat]
def k0_dev3 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v38 : BitVec 32 := Scalar.muli v2 c2_i32_24
  let v39 : BitVec 32 := Scalar.addi c0_i32_25 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v40 : BitVec 32 := Scalar.muli v6 c1_i32_26
  let v41 : BitVec 32 := Scalar.addi v39 v40
  v41.toNat
def k0_off3 (d0 : Dev nD) (c128_i32 : BitVec 32) : Fin 2 → Nat :=
  let c0_33 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v48 : BitVec 32 := Scalar.addi v17 c128_i32
  let v51 : Index := Scalar.indexCast v48
  ![0, v51.toNat]
def k0_off4 (d0 : Dev nD) (c128_i32 : BitVec 32) : Fin 2 → Nat :=
  let c0_35 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v48 : BitVec 32 := Scalar.addi v17 c128_i32
  let v55 : Index := Scalar.indexCast v48
  ![0, v55.toNat]
def k0_dev4 (d0 : Dev nD) : Nat :=
  let c0_i32_40 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_39 : BitVec 32 := 2#32
  let v63 : BitVec 32 := Scalar.muli v2 c2_i32_39
  let v64 : BitVec 32 := Scalar.addi c0_i32_40 v63
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_41 : BitVec 32 := 1#32
  let v65 : BitVec 32 := Scalar.muli v6 c1_i32_41
  let v66 : BitVec 32 := Scalar.addi v64 v65
  v66.toNat
def k0_off5 (d0 : Dev nD) (c512_i32 : BitVec 32) : Fin 2 → Nat :=
  let c0_48 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v73 : BitVec 32 := Scalar.addi v17 c512_i32
  let v76 : Index := Scalar.indexCast v73
  ![0, v76.toNat]
def k0_off6 (d0 : Dev nD) (c512_i32 : BitVec 32) : Fin 2 → Nat :=
  let c0_50 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v73 : BitVec 32 := Scalar.addi v17 c512_i32
  let v80 : Index := Scalar.indexCast v73
  ![0, v80.toNat]
def k0_dev5 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v88 : BitVec 32 := Scalar.muli v2 c2_i32_54
  let v89 : BitVec 32 := Scalar.addi c0_i32_55 v88
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_56 : BitVec 32 := 1#32
  let v90 : BitVec 32 := Scalar.muli v6 c1_i32_56
  let v91 : BitVec 32 := Scalar.addi v89 v90
  v91.toNat
def k0_dev6 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v113 : BitVec 32 := Scalar.muli v2 c2_i32_68
  let v114 : BitVec 32 := Scalar.addi c0_i32_69 v113
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v115 : BitVec 32 := Scalar.muli v6 c1_i32_70
  let v116 : BitVec 32 := Scalar.addi v114 v115
  v116.toNat
def k0_dev7 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v138 : BitVec 32 := Scalar.muli v2 c2_i32_82
  let v139 : BitVec 32 := Scalar.addi c0_i32_83 v138
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v140 : BitVec 32 := Scalar.muli v6 c1_i32_84
  let v141 : BitVec 32 := Scalar.addi v139 v140
  v141.toNat
def k0_dev8 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v163 : BitVec 32 := Scalar.muli v2 c2_i32_96
  let v164 : BitVec 32 := Scalar.addi c0_i32_97 v163
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_98 : BitVec 32 := 1#32
  let v165 : BitVec 32 := Scalar.muli v6 c1_i32_98
  let v166 : BitVec 32 := Scalar.addi v164 v165
  v166.toNat
def k0_dev9 (d0 : Dev nD) : Nat :=
  let c0_i32_116 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_115 : BitVec 32 := 2#32
  let v182 : BitVec 32 := Scalar.muli v7 c2_i32_115
  let v183 : BitVec 32 := Scalar.addi c0_i32_116 v182
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v184 : BitVec 32 := Scalar.muli v5 c1_i32_117
  let v185 : BitVec 32 := Scalar.addi v183 v184
  v185.toNat
def k0_off7 (d0 : Dev nD) (c0_i32_124 : BitVec 32) : Fin 2 → Nat :=
  let c0_125 : Index := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v194 : BitVec 32 := Scalar.addi v19 c0_i32_124
  let v195 : Index := Scalar.indexCast v194
  ![0, v195.toNat]
def k0_off8 (d0 : Dev nD) (c0_i32_127 : BitVec 32) : Fin 2 → Nat :=
  let c0_128 : Index := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v199 : BitVec 32 := Scalar.addi v19 c0_i32_127
  let v200 : Index := Scalar.indexCast v199
  ![0, v200.toNat]
def k0_off9 (d0 : Dev nD) (c0_i32_131 : BitVec 32) : Fin 2 → Nat :=
  let c0_132 : Index := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c4096_i32_15 : BitVec 32 := 4096#32
  let v22 : BitVec 32 := Scalar.muli v21 c4096_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v207 : BitVec 32 := Scalar.addi v22 v17
  let v208 : BitVec 32 := Scalar.addi v207 c0_i32_131
  let v209 : Index := Scalar.indexCast v208
  ![0, v209.toNat]
def k0_dev10 (d0 : Dev nD) : Nat :=
  let c0_i32_146 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_145 : BitVec 32 := 2#32
  let v222 : BitVec 32 := Scalar.muli v7 c2_i32_145
  let v223 : BitVec 32 := Scalar.addi c0_i32_146 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_147 : BitVec 32 := 1#32
  let v224 : BitVec 32 := Scalar.muli v5 c1_i32_147
  let v225 : BitVec 32 := Scalar.addi v223 v224
  v225.toNat
def k0_off10 (d0 : Dev nD) (c128_i32_154 : BitVec 32) : Fin 2 → Nat :=
  let c0_155 : Index := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v234 : BitVec 32 := Scalar.addi v19 c128_i32_154
  let v235 : Index := Scalar.indexCast v234
  ![0, v235.toNat]
def k0_off11 (d0 : Dev nD) (c128_i32_157 : BitVec 32) : Fin 2 → Nat :=
  let c0_158 : Index := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v239 : BitVec 32 := Scalar.addi v19 c128_i32_157
  let v240 : Index := Scalar.indexCast v239
  ![0, v240.toNat]
def k0_off12 (d0 : Dev nD) (c128_i32_161 : BitVec 32) : Fin 2 → Nat :=
  let c0_162 : Index := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c4096_i32_15 : BitVec 32 := 4096#32
  let v22 : BitVec 32 := Scalar.muli v21 c4096_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v247 : BitVec 32 := Scalar.addi v22 v17
  let v248 : BitVec 32 := Scalar.addi v247 c128_i32_161
  let v249 : Index := Scalar.indexCast v248
  ![0, v249.toNat]
def k0_dev11 (d0 : Dev nD) : Nat :=
  let c0_i32_176 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_175 : BitVec 32 := 2#32
  let v262 : BitVec 32 := Scalar.muli v7 c2_i32_175
  let v263 : BitVec 32 := Scalar.addi c0_i32_176 v262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_177 : BitVec 32 := 1#32
  let v264 : BitVec 32 := Scalar.muli v5 c1_i32_177
  let v265 : BitVec 32 := Scalar.addi v263 v264
  v265.toNat
def k0_off13 (d0 : Dev nD) (c512_i32_184 : BitVec 32) : Fin 2 → Nat :=
  let c0_185 : Index := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v274 : BitVec 32 := Scalar.addi v19 c512_i32_184
  let v275 : Index := Scalar.indexCast v274
  ![0, v275.toNat]
def k0_off14 (d0 : Dev nD) (c512_i32_187 : BitVec 32) : Fin 2 → Nat :=
  let c0_188 : Index := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v279 : BitVec 32 := Scalar.addi v19 c512_i32_187
  let v280 : Index := Scalar.indexCast v279
  ![0, v280.toNat]
def k0_off15 (d0 : Dev nD) (c512_i32_191 : BitVec 32) : Fin 2 → Nat :=
  let c0_192 : Index := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c4096_i32_15 : BitVec 32 := 4096#32
  let v22 : BitVec 32 := Scalar.muli v21 c4096_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v287 : BitVec 32 := Scalar.addi v22 v17
  let v288 : BitVec 32 := Scalar.addi v287 c512_i32_191
  let v289 : Index := Scalar.indexCast v288
  ![0, v289.toNat]
def k0_off16 (d0 : Dev nD) (c0_i32_205 : BitVec 32) : Fin 2 → Nat :=
  let c0_206 : Index := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c4096_i32_15 : BitVec 32 := 4096#32
  let v22 : BitVec 32 := Scalar.muli v21 c4096_i32_15
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v305 : BitVec 32 := Scalar.addi v22 v19
  let v306 : BitVec 32 := Scalar.addi v305 c0_i32_205
  let v307 : Index := Scalar.indexCast v306
  ![0, v307.toNat]
def k0_dev12 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v320 : BitVec 32 := Scalar.muli v7 c2_i32_219
  let v321 : BitVec 32 := Scalar.addi c0_i32_220 v320
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v322 : BitVec 32 := Scalar.muli v5 c1_i32_221
  let v323 : BitVec 32 := Scalar.addi v321 v322
  v323.toNat
def k0_off17 (d0 : Dev nD) (c128_i32_249 : BitVec 32) : Fin 2 → Nat :=
  let c0_250 : Index := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c4096_i32_15 : BitVec 32 := 4096#32
  let v22 : BitVec 32 := Scalar.muli v21 c4096_i32_15
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v363 : BitVec 32 := Scalar.addi v22 v19
  let v364 : BitVec 32 := Scalar.addi v363 c128_i32_249
  let v365 : Index := Scalar.indexCast v364
  ![0, v365.toNat]
def k0_dev13 (d0 : Dev nD) : Nat :=
  let c0_i32_264 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_263 : BitVec 32 := 2#32
  let v378 : BitVec 32 := Scalar.muli v7 c2_i32_263
  let v379 : BitVec 32 := Scalar.addi c0_i32_264 v378
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_265 : BitVec 32 := 1#32
  let v380 : BitVec 32 := Scalar.muli v5 c1_i32_265
  let v381 : BitVec 32 := Scalar.addi v379 v380
  v381.toNat
def k0_off18 (d0 : Dev nD) (c512_i32_293 : BitVec 32) : Fin 2 → Nat :=
  let c0_294 : Index := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c4096_i32_15 : BitVec 32 := 4096#32
  let v22 : BitVec 32 := Scalar.muli v21 c4096_i32_15
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v421 : BitVec 32 := Scalar.addi v22 v19
  let v422 : BitVec 32 := Scalar.addi v421 c512_i32_293
  let v423 : Index := Scalar.indexCast v422
  ![0, v423.toNat]
def k0_dev14 (d0 : Dev nD) : Nat :=
  let c0_i32_308 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_307 : BitVec 32 := 2#32
  let v436 : BitVec 32 := Scalar.muli v7 c2_i32_307
  let v437 : BitVec 32 := Scalar.addi c0_i32_308 v436
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_309 : BitVec 32 := 1#32
  let v438 : BitVec 32 := Scalar.muli v5 c1_i32_309
  let v439 : BitVec 32 := Scalar.addi v437 v438
  v439.toNat
def k0_off19 (d0 : Dev nD) : Fin 2 → Nat :=
  let c0_342 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v20 : BitVec 32 := Scalar.muli v5 c4096_i32
  let v488 : Index := Scalar.indexCast v20
  ![0, v488.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Cells.lean ====
/-
The devices' neighbours on the 2 x 2 mesh, the six column chunks of the half-width buffers, the semaphore cells of the
kernel and the schedule of what each arrival hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Neighbours -/

set_option backward.proofsInPublic true in
/-- The device with the same `x` and the other `y`. -/
def py (c : Dev nD) : Dev nD := ⟨(2 * (c.val / 2) + 1) - c.val % 2, by have h : c.val < 4 := c.isLt; show _ < 4; omega⟩
set_option backward.proofsInPublic true in
/-- The device with the same `y` and the other `x`. -/
def px (c : Dev nD) : Dev nD := ⟨(c.val % 2 + 2) - 2 * (c.val / 2), by have h : c.val < 4 := c.isLt; show _ < 4; omega⟩

theorem py_py (c : Dev nD) : py (py c) = c := by revert c; decide
theorem px_px (c : Dev nD) : px (px c) = c := by revert c; decide
theorem py_px (c : Dev nD) : py (px c) = px (py c) := by revert c; decide
theorem py_ne_px (c : Dev nD) : py c ≠ px c := by revert c; decide

/-! ## Chunks -/

/-- The first column of each chunk. -/
def off : Fin 6 → ℕ := ![0, 128, 512, 1024, 1536, 1920]
/-- The number of columns of each chunk. -/
def wd : Fin 6 → ℕ := ![128, 384, 512, 512, 384, 128]

/-- The indices of the half-width buffers that lie in the columns of chunk `k`. -/
def cols (k : Fin 6) : Finset S256x2048.Idx := Finset.univ.filter fun i => off k ≤ (i 1).val ∧ (i 1).val < off k + wd k

theorem mem_cols {k : Fin 6} {i : S256x2048.Idx} : i ∈ cols k ↔ off k ≤ (i 1).val ∧ (i 1).val < off k + wd k := by
  unfold cols; rw [Finset.mem_filter]; exact and_iff_right (Finset.mem_univ _)

/-- Different chunks have no column in common. -/
theorem cols_disjoint {j k : Fin 6} (h : j ≠ k) : Disjoint (cols j) (cols k) := by
  rw [Finset.disjoint_left]
  intro i hj hk
  rw [mem_cols] at hj hk
  apply h
  fin_cases j <;> fin_cases k <;> first | rfl | (exfalso; simp [off, wd] at hj hk; omega)

/-- The six chunks cover the buffer. -/
theorem cols_univ : (Finset.univ : Finset (Fin 6)).biUnion cols = Finset.univ := by
  ext i
  rw [Finset.mem_biUnion]
  refine ⟨fun _ => Finset.mem_univ _, fun _ => ?_⟩
  have hi : (i 1).val < 2048 := (i 1).isLt
  have : ∃ k, i ∈ cols k := by
    simp only [mem_cols]
    by_cases h1 : (i 1).val < 128
    · exact ⟨0, by simp only [off, wd]; simp; omega⟩
    by_cases h2 : (i 1).val < 512
    · exact ⟨1, by simp only [off, wd]; simp; omega⟩
    by_cases h3 : (i 1).val < 1024
    · exact ⟨2, by simp only [off, wd]; simp; omega⟩
    by_cases h4 : (i 1).val < 1536
    · exact ⟨3, by simp only [off, wd]; simp; omega⟩
    by_cases h5 : (i 1).val < 1920
    · exact ⟨4, by simp only [off, wd]; simp; omega⟩
    · exact ⟨5, by simp only [off, wd]; simp; omega⟩
  obtain ⟨k, hk⟩ := this
  exact ⟨k, Finset.mem_univ _, hk⟩

/-! ## The memrefs -/

abbrev xM : Memref sig .tc .vmem S256x512 .f32 := Memref.whole cc0_stg0_0
abbrev wM : Memref sig .tc .vmem S512x4096 .f32 := Memref.whole cc0_stg1_0
abbrev oM : Memref sig .tc .vmem S256x8192 .f32 := Memref.whole cc0_stg2_0
abbrev lM : Memref sig .tc .vmem S256x4096 .f32 := Memref.whole cc0_scratch0
abbrev sM : Memref sig .tc .vmem S256x2048 .bf16 := Memref.whole cc0_scratch1
abbrev ryM : Memref sig .tc .vmem S256x2048 .bf16 := Memref.whole cc0_scratch2
abbrev rxM : Memref sig .tc .vmem S256x2048 .bf16 := Memref.whole cc0_scratch3

/-- The rectangle of all rows and the columns from `o` on, `w` of them. -/
abbrev rk (o w : ℕ) (h : ∀ a, (![0, o] : Fin 2 → ℕ) a + (⟨2, ![256, w]⟩ : Shape).size a ≤ S256x2048.size a) : Rect S256x2048 :=
  Rect.unit (s := S256x2048) ![0, o] (⟨2, ![256, w]⟩ : Shape).size h

/-- The credit of the transfer of each chunk. -/
def Nk (k : Fin 6) : ℕ := match k with
  | 0 => (sM.slice (rk 0 128 inb_S256x2048_S256x128_0_0) (fun _ => rfl)).view.dmaCredit
  | 1 => (sM.slice (rk 128 384 inb_S256x2048_S256x384_0_128) (fun _ => rfl)).view.dmaCredit
  | 2 => (sM.slice (rk 512 512 inb_S256x2048_S256x512_0_512) (fun _ => rfl)).view.dmaCredit
  | 3 => (sM.slice (rk 1024 512 inb_S256x2048_S256x512_0_1024) (fun _ => rfl)).view.dmaCredit
  | 4 => (sM.slice (rk 1536 384 inb_S256x2048_S256x384_0_1536) (fun _ => rfl)).view.dmaCredit
  | 5 => (sM.slice (rk 1920 128 inb_S256x2048_S256x128_0_1920) (fun _ => rfl)).view.dmaCredit

theorem Nk_pos (k : Fin 6) : 0 < Nk k := by
  fin_cases k <;> exact View.dmaCredit_pos _ (by decide)

/-! ## The cells -/

abbrev barS : Sem sig := (SemArray.scalar (sig.barrier 0 rfl) : Sems sig S_).sem

set_option backward.proofsInPublic true in
/-- The kernel's own DMA semaphores: family 0 signals that a chunk of the send buffer has left for the `y` neighbour, 1 that
    a chunk has come from it, 2 that a chunk has been forwarded to the `x` neighbour, 3 that a forwarded chunk has come. -/
def dq (a : Fin 4) (k : Fin 6) : DmaSem sig := ⟨3 + 6 * a.val + k.val, by have := a.isLt; have := k.isLt; show _ < 27; omega⟩

/-- The family of a DMA semaphore. -/
def aq (q : DmaSem sig) : ℕ := (q.val - 3) / 6
set_option backward.proofsInPublic true in
/-- The chunk of a DMA semaphore. -/
def kq (q : DmaSem sig) : Fin 6 := ⟨(q.val - 3) % 6, Nat.mod_lt _ (by decide)⟩

theorem dq_val (a : Fin 4) (k : Fin 6) : (dq a k).val = 3 + 6 * a.val + k.val := rfl
theorem aq_dq (a : Fin 4) (k : Fin 6) : aq (dq a k) = a.val := by
  have := k.isLt; unfold aq; rw [dq_val]; omega
theorem kq_dq (a : Fin 4) (k : Fin 6) : kq (dq a k) = k := by
  have := k.isLt; apply Fin.ext; show (3 + 6 * a.val + k.val - 3) % 6 = _; omega
theorem dq_ge (a : Fin 4) (k : Fin 6) : 3 ≤ (dq a k).val := by rw [dq_val]; omega
theorem dq_inj {a b : Fin 4} {j k : Fin 6} (h : dq a j = dq b k) : a = b ∧ j = k :=
  ⟨Fin.ext (by rw [← aq_dq a j, h, aq_dq]), by rw [← kq_dq a j, h, kq_dq]⟩

abbrev barCell (c : Dev nD) : GSem nD τ sig := ((c : Thread nD τ), .reg barS)
abbrev dCell (c : Dev nD) (a : Fin 4) (k : Fin 6) : GSem nD τ sig := ((c : Thread nD τ), .dma (dq a k))

/-- The kernel's own scoped semaphores. -/
abbrev osem (p : Fin 4 × Fin 6) : SemLoc sig := .dma (dq p.1 p.2)
/-- All the cells of a device the schedule speaks of: the barrier's and the kernel's own. -/
def csem : Option (Fin 4 × Fin 6) → SemLoc sig
  | none => .reg barS
  | some p => .dma (dq p.1 p.2)
abbrev kcell (ck : Dev nD × Option (Fin 4 × Fin 6)) : GSem nD τ sig := ((ck.1 : Thread nD τ), csem ck.2)

/-! ## What the arrivals hand over -/

/-- The contents of a half-width buffer. -/
abbrev HBuf (F : FTy → Type) : Type := S256x2048.Idx → Elt F .bf16

/-- Chunk `k` of device `c`'s send buffer, its contents read off `f`. -/
def sPts (c : Dev nD) (k : Fin 6) (f : HBuf F) : sProp 𝕄 := ((c : Thread nD τ).loc cc0_scratch1) ↦[cols k]{fullShare} f
/-- Share `q` of chunk `k` of the buffer device `c` receives its `y` neighbour's half in. -/
def ryPts (c : Dev nD) (k : Fin 6) (q : PosShare TreeShare) (f : HBuf F) : sProp 𝕄 := ((c : Thread nD τ).loc cc0_scratch2) ↦[cols k]{q} f
/-- Chunk `k` of the buffer device `c` receives its `x` neighbour's forwarded half in. -/
def rxPts (c : Dev nD) (k : Fin 6) (f : HBuf F) : sProp 𝕄 := ((c : Thread nD τ).loc cc0_scratch3) ↦[cols k]{fullShare} f

omit [FloatOps F] in
instance sPts_storable (c k) (f : HBuf F) : BI.Storable (upEmb : UEmb _ 𝕄) (sPts (F := F) c k f) := by unfold sPts; infer_instance
omit [FloatOps F] in
instance ryPts_storable (c k q) (f : HBuf F) : BI.Storable (upEmb : UEmb _ 𝕄) (ryPts (F := F) c k q f) := by unfold ryPts; infer_instance
omit [FloatOps F] in
instance rxPts_storable (c k) (f : HBuf F) : BI.Storable (upEmb : UEmb _ 𝕄) (rxPts (F := F) c k f) := by unfold rxPts; infer_instance

/-- What the barrier signal hands the device `c` it arrives at: from `py c` (`false`) the buffer it will receive
    `c`'s half in, from `px c` (`true`) the one it will receive the forwarded half in; contents arbitrary, chunk by chunk. -/
def barPay (c : Dev nD) (d : Bool) : sProp 𝕄 :=
  match d with
  | false => bigSep Finset.univ fun k : Fin 6 => iprop(∃ f : HBuf F, ryPts (py c) k fullShare f)
  | true => bigSep Finset.univ fun k : Fin 6 => iprop(∃ f : HBuf F, rxPts (px c) k f)

variable (sV : Dev nD → HBuf F)

/-- What the arrival on a DMA semaphore of device `c` hands it, `sV d` being what device `d` sends. -/
def dmaPay (c : Dev nD) (q : DmaSem sig) : sProp 𝕄 :=
  if aq q = 0 then sPts c (kq q) (sV c)
  else if aq q = 1 then ryPts c (kq q) fullShare (sV (py c))
  else if aq q = 2 then ryPts c (kq q) fullShare.left (sV (py c))
  else rxPts c (kq q) (sV (py (px c)))

/-- The schedule: one round; each barrier cell has two duties of one unit, each of the kernel's own DMA cells one duty of its
    chunk's credit. -/
def sched : Rounds.Schedule (GSem nD τ sig) Bool 𝕄 where
  duties g r := if r = 0 ∧ g.1.2 = .tc then
    (match g.2 with | .reg _ => Finset.univ | .dma q => if 3 ≤ q.val then {false} else ∅) else ∅
  unitless _ := False
  amount g _ _ := match g.2 with | .reg _ => 1 | .dma q => Nk (kq q)
  payload g _ d := match g.2 with | .reg _ => barPay g.1.1 d | .dma q => dmaPay sV g.1.1 q
  amount_pos g _ _ _ := by
    obtain ⟨t, sm⟩ := g
    cases sm with
    | reg b => exact Nat.one_pos
    | dma q => exact Nk_pos _

omit [FloatOps F] in
instance barPay_storable (c : Dev nD) (d : Bool) : BI.Storable (upEmb : UEmb _ 𝕄) (barPay (F := F) c d) := by
  cases d <;> (unfold barPay; infer_instance)

omit [FloatOps F] in
instance dmaPay_storable (c : Dev nD) (q : DmaSem sig) : BI.Storable (upEmb : UEmb _ 𝕄) (dmaPay sV c q) := by
  unfold dmaPay; (repeat' split) <;> infer_instance

omit [FloatOps F] in
instance sched_storable (g : GSem nD τ sig) (r : ℕ) (d : Bool) : BI.Storable (upEmb : UEmb _ 𝕄) ((sched sV).payload g r d) := by
  obtain ⟨t, sm⟩ := g
  cases sm with
  | reg b => exact barPay_storable t.1 d
  | dma q => exact dmaPay_storable sV t.1 q

section Tables
variable (c : Dev nD) (a : Fin 4) (k : Fin 6)

omit [FloatOps F] in
theorem duties_bar : (sched sV).duties (barCell c) 0 = Finset.univ := by dsimp only [sched]; exact if_pos ⟨rfl, rfl⟩
omit [FloatOps F] in
theorem duties_dma : (sched sV).duties (dCell c a k) 0 = {false} := by
  dsimp only [sched]; exact (if_pos ⟨rfl, rfl⟩).trans (if_pos (dq_ge a k))
omit [FloatOps F] in
theorem duties_later (g : GSem nD τ sig) : ∀ r, 1 ≤ r → (sched sV).duties g r = ∅ :=
  fun r hr => by dsimp only [sched]; exact if_neg fun h => by omega

omit [FloatOps F] in
theorem amount_bar (d : Bool) : (sched sV).amount (barCell c) 0 d = 1 := rfl
omit [FloatOps F] in
theorem amount_dma (d : Bool) : (sched sV).amount (dCell c a k) 0 d = Nk k := congrArg Nk (kq_dq a k)

omit [FloatOps F] in
theorem expect_bar : (sched sV).expect (barCell c) 0 = 2 := by
  unfold Schedule.expect Schedule.amountOf
  rw [duties_bar, Finset.sum_congr rfl fun d _ => amount_bar sV c d]; rfl
omit [FloatOps F] in
theorem expect_dma : (sched sV).expect (dCell c a k) 0 = Nk k := by
  unfold Schedule.expect Schedule.amountOf; rw [duties_dma, Finset.sum_singleton, amount_dma]

omit [FloatOps F] in
theorem payload_bar (d : Bool) : (sched sV).payload (barCell c) 0 d = barPay c d := rfl
omit [FloatOps F] in
theorem payload_dma (d : Bool) : (sched sV).payload (dCell c a k) 0 d = dmaPay sV c (dq a k) := rfl

omit [FloatOps F] in
theorem pay_sy : dmaPay sV c (dq 0 k) = sPts c k (sV c) := by
  unfold dmaPay; rw [aq_dq, kq_dq]; rfl
omit [FloatOps F] in
theorem pay_ry : dmaPay sV c (dq 1 k) = ryPts c k fullShare (sV (py c)) := by
  unfold dmaPay; rw [aq_dq, kq_dq]; rfl
omit [FloatOps F] in
theorem pay_sx : dmaPay sV c (dq 2 k) = ryPts c k fullShare.left (sV (py c)) := by
  unfold dmaPay; rw [aq_dq, kq_dq]; rfl
omit [FloatOps F] in
theorem pay_rx : dmaPay sV c (dq 3 k) = rxPts c k (sV (py (px c))) := by
  unfold dmaPay; rw [aq_dq, kq_dq]; rfl

omit [FloatOps F] in
theorem rest_bar : bigSep ((sched sV).duties (barCell c) 0 \ ∅) (fun d => (sched sV).payload (barCell c) 0 d)
    = iprop(barPay c false ∗ barPay c true) := by
  rw [Finset.sdiff_empty, duties_bar, bigSep_univ_eq_bigSepL [false, true] (by decide) (by decide), bigSepL_cons_cons, bigSepL_singleton]
  rfl
omit [FloatOps F] in
theorem rest_dma : bigSep ((sched sV).duties (dCell c a k) 0 \ ∅) (fun d => (sched sV).payload (dCell c a k) 0 d)
    = dmaPay sV c (dq a k) := by
  rw [Finset.sdiff_empty, duties_dma, bigSep_singleton, payload_dma]

end Tables

/-! ## What a device owes, and the levels -/

set_option backward.proofsInPublic true in
/-- The chunk number `5 - n`. -/
def rev6 (n : ℕ) : Fin 6 := ⟨5 - n, by omega⟩

/-- What device `c` still owes for the last `n` forwards. -/
def oX (c : Dev nD) : ℕ → CellTallies nD τ sig Unit
  | 0 => 0
  | n + 1 => oX c n + tallyAt (dCell (px c) 3 (rev6 n)) () (Nk (rev6 n))
/-- What device `c` still owes for all its forwards and the last `n` sends. -/
def oY (c : Dev nD) : ℕ → CellTallies nD τ sig Unit
  | 0 => oX c 6
  | n + 1 => oY c n + tallyAt (dCell (py c) 1 (rev6 n)) () (Nk (rev6 n))
/-- With the second barrier signal to come. -/
def O₁ (c : Dev nD) : CellTallies nD τ sig Unit := oY c 6 + tallyAt (barCell (px c)) () 1
/-- What device `c` owes at launch. -/
def O₀ (c : Dev nD) : CellTallies nD τ sig Unit := O₁ c + tallyAt (barCell (py c)) () 1

def L (g : GSem nD τ sig) : Finset Unit := if g.1.2 = .tc then {()} else ∅

/-- The order in which the cells are waited on: the staging and the send cells at 0, the barrier at 1, the chunks from the
    `y` neighbour at 2, the forwarded chunks above, by number. -/
def lv (g : GSem nD τ sig) (_ : Unit) : ℕ :=
  match g.2 with
  | .reg _ => 1
  | .dma q => if q.val < 3 then 0 else if aq q = 1 then 2 else if aq q = 3 then 3 + (kq q).val else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_dq (c : Dev nD) (a : Fin 4) (k : Fin 6) :
    lv (dCell c a k) () = if a.val = 1 then 2 else if a.val = 3 then 3 + k.val else 0 := by
  show (if (dq a k).val < 3 then 0 else if aq (dq a k) = 1 then 2 else if aq (dq a k) = 3 then 3 + (kq (dq a k)).val else 0) = _
  rw [aq_dq, kq_dq, if_neg (by have := dq_ge a k; omega)]

/-- A tally at one cell is positive at that cell only. -/
theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem add_pos' {O P : CellTallies nD τ sig Unit} {g : GSem nD τ sig} {u : Unit} (h : 0 < (O + P) g u) : 0 < O g u ∨ 0 < P g u := by
  rw [Pi.add_apply, Finsupp.add_apply] at h; omega

/-- What is owed for the last `n` forwards lies at the cells of those forwards. -/
theorem oX_pos (c : Dev nD) (n : ℕ) {g : GSem nD τ sig} {u : Unit} (h : 0 < oX c n g u) :
    ∃ k : Fin 6, 6 ≤ k.val + n ∧ g = dCell (px c) 3 k := by
  induction n with
  | zero => exact absurd h (Nat.lt_irrefl 0)
  | succ n ih =>
    rcases add_pos' h with h | h
    · obtain ⟨k, hk, e⟩ := ih h; exact ⟨k, by omega, e⟩
    · exact ⟨rev6 n, by show 6 ≤ 5 - n + (n + 1); omega, tally_pos h⟩

theorem oY_pos (c : Dev nD) (n : ℕ) {g : GSem nD τ sig} {u : Unit} (h : 0 < oY c n g u) :
    (∃ k : Fin 6, g = dCell (px c) 3 k) ∨ ∃ k : Fin 6, g = dCell (py c) 1 k := by
  induction n with
  | zero => obtain ⟨k, -, e⟩ := oX_pos c 6 h; exact .inl ⟨k, e⟩
  | succ n ih =>
    rcases add_pos' h with h | h
    · exact ih h
    · exact .inr ⟨_, tally_pos h⟩

theorem O₀_pos (c : Dev nD) {g : GSem nD τ sig} {u : Unit} (h : 0 < O₀ c g u) : L g = {()} ∧ 1 ≤ lv g u := by
  rcases add_pos' h with h | h
  · rcases add_pos' h with h | h
    · rcases oY_pos c 6 h with ⟨k, rfl⟩ | ⟨k, rfl⟩
      · exact ⟨L_tc _ _, by rw [show u = () from rfl, lv_dq]; simp; omega⟩
      · exact ⟨L_tc _ _, by rw [show u = () from rfl, lv_dq]; simp⟩
    · rw [tally_pos h]; exact ⟨L_tc _ _, le_refl _⟩
  · rw [tally_pos h]; exact ⟨L_tc _ _, le_refl _⟩

omit [FloatOps F] in
/-- Waiting for what is at most `b` high while owing only what lies above `b` is allowed. -/
theorem mayWait_cut (c : Dev nD) (sm : SemLoc sig) (O : CellTallies nD τ sig Unit) (b : ℕ)
    (h1 : lv ((c : Thread nD τ), sm) () ≤ b) (h2 : ∀ (g : GSem nD τ sig) (u : Unit), 0 < O g u → L g = {()} ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by rw [(h2 g u hg).1]; exact Finset.mem_singleton_self _)
    (fun p hp => by rw [Finset.mem_singleton.mp hp]; exact h1)
    (fun g u hg => (h2 g u hg).2)

omit [FloatOps F] in
/-- A staging semaphore may be waited on at launch. -/
theorem mayWait_stage (c : Dev nD) (q : DmaSem sig) (hq : q.val < 3) :
    (levAts L lv : sProp 𝕄) ⊢ MayWait (c : Thread nD τ) (.dma q) () (O₀ c) :=
  mayWait_cut c _ _ 0 (by show (if q.val < 3 then 0 else _) ≤ 0; rw [if_pos hq]) fun g u hg => (O₀_pos c hg)

omit [FloatOps F] in
/-- At the barrier a device owes its sends and forwards, which lie above. -/
theorem mayWait_bar (c : Dev nD) : (levAts L lv : sProp 𝕄) ⊢ MayWait (c : Thread nD τ) (.reg barS) () (oY c 6) :=
  mayWait_cut c _ _ 1 (le_refl _) fun g u hg => by
    rcases oY_pos c 6 hg with ⟨k, rfl⟩ | ⟨k, rfl⟩
    · exact ⟨L_tc _ _, by rw [show u = () from rfl, lv_dq]; simp; omega⟩
    · exact ⟨L_tc _ _, by rw [show u = () from rfl, lv_dq]; simp⟩

omit [FloatOps F] in
/-- Waiting for a chunk of the `y` neighbour, a device owes forwards only. -/
theorem mayWait_ry (c : Dev nD) (k : Fin 6) (n : ℕ) :
    (levAts L lv : sProp 𝕄) ⊢ MayWait (c : Thread nD τ) (.dma (dq 1 k)) () (oX c n) :=
  mayWait_cut c _ _ 2 (by rw [lv_dq]; simp) fun g u hg => by
    obtain ⟨j, hj, rfl⟩ := oX_pos c n hg
    exact ⟨L_tc _ _, by rw [show u = () from rfl, lv_dq]; simp; omega⟩

omit [FloatOps F] in
/-- Waiting for a forwarded chunk, a device owes the forwards of later chunks only. -/
theorem mayWait_rx (c : Dev nD) (k : Fin 6) (n : ℕ) (h : k.val + n < 6) :
    (levAts L lv : sProp 𝕄) ⊢ MayWait (c : Thread nD τ) (.dma (dq 3 k)) () (oX c n) :=
  mayWait_cut c _ _ (3 + k.val) (by rw [lv_dq]; simp) fun g u hg => by
    obtain ⟨j, hj, rfl⟩ := oX_pos c n hg
    exact ⟨L_tc _ _, by rw [show u = () from rfl, lv_dq]; simp; omega⟩

omit [FloatOps F] in
/-- Owing nothing, a device may wait for anything. -/
theorem mayWait_zero (c : Dev nD) (sm : SemLoc sig) : (levAts L lv : sProp 𝕄) ⊢ MayWait (c : Thread nD τ) sm () 0 := by
  rw [MayWait_zero]; iintro -; iempintro

end Cert.SoftmaxProof

end
-- ==== Proof.Steps.lean ====
/-
The kernel's effects, one rule for each: the two barrier signals and the barrier wait, the send of a chunk, its forward, and
the wait on one of the kernel's own semaphores; the reads of the received chunks.
-/
module

public import proofs.«01_k».proof.Proof.Cells

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Geometry of a chunk -/

/-- The rectangle of chunk `k`'s columns is the set `cols k`. -/
theorem rk_set (k : Fin 6) {o w : ℕ} (ho : off k = o) (hw : wd k = w) (h) : (rk o w h).set = cols k := by
  subst ho hw
  ext i
  rw [show i ∈ (rk (off k) (wd k) h).set ↔ _ from LoadRect.mem_set _, mem_cols]
  constructor
  · intro hi
    obtain ⟨j, hj, e⟩ := hi 1
    have e' : (i 1).val = off k + 1 * j := e
    have hj' : j < wd k := hj
    omega
  · rintro ⟨h1, h2⟩ a
    fin_cases a
    · exact ⟨(i 0).val, (i 0).isLt, by show (i 0).val = 0 + 1 * (i 0).val; omega⟩
    · exact ⟨(i 1).val - off k, by show _ < wd k; omega, by show (i 1).val = off k + 1 * ((i 1).val - off k); omega⟩

/-- A chunk copied from the send buffer into the buffer the `y` neighbour's half arrives in holds what was sent. -/
theorem copy_y {o w : ℕ} (h) (fd fs : HBuf F) (i : S256x2048.Idx) (hi : i ∈ (rk o w h).set) :
    (ryM.slice (rk o w h) (fun _ => rfl)).view.write (Elt F) fd ((sM.slice (rk o w h) (fun _ => rfl)).view.read (Elt F) fs) Finset.univ i = fs i := by
  rw [← Rect.map_emb_univ, Finset.mem_map] at hi
  obtain ⟨j, -, rfl⟩ := hi
  exact View.write_emb_of_mem (v := (ryM.slice (rk o w h) (fun _ => rfl)).view) fd _ (Finset.mem_univ j)

/-- The same of a chunk forwarded to the `x` neighbour. -/
theorem copy_x {o w : ℕ} (h) (fd fs : HBuf F) (i : S256x2048.Idx) (hi : i ∈ (rk o w h).set) :
    (rxM.slice (rk o w h) (fun _ => rfl)).view.write (Elt F) fd ((ryM.slice (rk o w h) (fun _ => rfl)).view.read (Elt F) fs) Finset.univ i = fs i := by
  rw [← Rect.map_emb_univ, Finset.mem_map] at hi
  obtain ⟨j, -, rfl⟩ := hi
  exact View.write_emb_of_mem (v := (rxM.slice (rk o w h) (fun _ => rfl)).view) fd _ (Finset.mem_univ j)

/-! ## The shared records -/

variable (sV : Dev nD → HBuf F) (K : Dev nD × Option (Fin 4 × Fin 6) → ℕ)

/-- Every cell's invariant and that its round 0 is reached. -/
def records : sProp 𝕄 :=
  iprop((bigSep Finset.univ fun p : Dev nD × Option (Fin 4 × Fin 6) => cellInv ER (sched sV) (K p) (kcell p))
    ∗ bigSep Finset.univ fun p : Dev nD × Option (Fin 4 × Fin 6) => reached ER (kcell p) 0)

omit [FloatOps F] in
instance records_persistent : BI.Persistent (records sV K) := by unfold records; infer_instance

/-- The records and the levels. -/
def recs : sProp 𝕄 := iprop(records sV K ∗ levAts L lv)

omit [FloatOps F] in
instance recs_persistent : BI.Persistent (recs sV K) := by unfold recs; infer_instance

omit [FloatOps F] in
theorem inv_at (p : Dev nD × Option (Fin 4 × Fin 6)) : recs sV K ⊢ cellInv ER (sched sV) (K p) (kcell p) := by
  unfold recs records
  iintro ⟨⟨H, -⟩, -⟩
  have e : (bigSep Finset.univ fun p : Dev nD × Option (Fin 4 × Fin 6) => (cellInv ER (sched sV) (K p) (kcell p) : sProp 𝕄))
    ⊢ cellInv ER (sched sV) (K p) (kcell p) := bigSep_elim (Finset.mem_univ p)
  iapply e; iexact H

omit [FloatOps F] in
theorem reached_at (p : Dev nD × Option (Fin 4 × Fin 6)) : recs sV K ⊢ (reached ER (kcell p) 0 : sProp 𝕄) := by
  unfold recs records
  iintro ⟨⟨-, H⟩, -⟩
  have e : (bigSep Finset.univ fun p : Dev nD × Option (Fin 4 × Fin 6) => (reached ER (kcell p) 0 : sProp 𝕄))
    ⊢ reached ER (kcell p) 0 := bigSep_elim (Finset.mem_univ p)
  iapply e; iexact H

omit [FloatOps F] in
theorem recs_lev : recs sV K ⊢ (levAts L lv : sProp 𝕄) := by
  unfold recs; iintro ⟨-, H⟩; iexact H

/-- Device `c` owes `O`, whatever it has waited on. -/
def ow (c : Dev nD) (O : CellTallies nD τ sig Unit) : sProp 𝕄 := iprop(∃ W, owes (c : Thread nD τ) O W)

/-- A device's program run to the postcondition `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-! ## The barrier -/

/-- The signal to `py c`'s barrier cell, with the buffer `c` receives `py c`'s half in. -/
theorem wp_signal_y (n : Dev nD) (hn : n = py c) {α : Type} {Q : α → sProp 𝕄} {k : PUnit → Prog (TpuEff nD τ sig (Elt F) Λ₀ .tc) α} :
    iprop(recs sV K ∗ ow c (O₀ c) ∗ dutyTok ER (barCell (py c)) 0 false
        ∗ bigSep Finset.univ fun j : Fin 6 => iprop(∃ f : HBuf F, ryPts c j fullShare f))
      ⊢ iprop((ow c (O₁ c) -∗ run c (k ⟨⟩) Q) -∗ run c (.op (.semSignal (Dev.tc n : Thread nD τ) barS 1) k) Q) := by
  subst hn
  unfold ow
  iintro ⟨#HR, ⟨%W, HO⟩, Ht, Hb⟩ Hk
  ihave #Hi := (inv_at sV K (py c, none)) $$ HR
  ihave #Hr := (reached_at sV K (py c, none)) $$ HR
  iapply (Rounds.wp_signal 𝒱₀ ER (sched sV) (c : Thread nD τ) none (dst := (py c : Thread nD τ)) (κ := K (py c, none))
      (d := false) (by rw [duties_bar]; exact Finset.mem_univ _) (amount_bar sV (py c) false) () (O₁ c) rfl)
    $$ [HO Ht Hb]
  · isplitr; · iexact Hi
    isplitl [HO]; · iexact HO
    isplitl [Ht]; · iexact Ht
    isplitl [Hb]
    · rw [payload_bar]; unfold barPay; rw [py_py]; iexact Hb
    · iexact Hr
  iintro HO
  iapply Hk; iexists W; iexact HO

/-- The signal to `px c`'s barrier cell, with the buffer `c` receives the forwarded half in. -/
theorem wp_signal_x (n : Dev nD) (hn : n = px c) {α : Type} {Q : α → sProp 𝕄} {k : PUnit → Prog (TpuEff nD τ sig (Elt F) Λ₀ .tc) α} :
    iprop(recs sV K ∗ ow c (O₁ c) ∗ dutyTok ER (barCell (px c)) 0 true
        ∗ bigSep Finset.univ fun j : Fin 6 => iprop(∃ f : HBuf F, rxPts c j f))
      ⊢ iprop((ow c (oY c 6) -∗ run c (k ⟨⟩) Q) -∗ run c (.op (.semSignal (Dev.tc n : Thread nD τ) barS 1) k) Q) := by
  subst hn
  unfold ow
  iintro ⟨#HR, ⟨%W, HO⟩, Ht, Hb⟩ Hk
  ihave #Hi := (inv_at sV K (px c, none)) $$ HR
  ihave #Hr := (reached_at sV K (px c, none)) $$ HR
  iapply (Rounds.wp_signal 𝒱₀ ER (sched sV) (c : Thread nD τ) none (dst := (px c : Thread nD τ)) (κ := K (px c, none))
      (d := true) (by rw [duties_bar]; exact Finset.mem_univ _) (amount_bar sV (px c) true) () (oY c 6) rfl)
    $$ [HO Ht Hb]
  · isplitr; · iexact Hi
    isplitl [HO]; · iexact HO
    isplitl [Ht]; · iexact Ht
    isplitl [Hb]
    · rw [payload_bar]; unfold barPay; rw [px_px]; iexact Hb
    · iexact Hr
  iintro HO
  iapply Hk; iexists W; iexact HO

/-- The wait for both neighbours: both landing buffers come with it, and the barrier cell closes at zero. -/
theorem wp_barrier {α : Type} {Q : α → sProp 𝕄} {k : PUnit → Prog (TpuEff nD τ sig (Elt F) Λ₀ .tc) α} :
    iprop(recs sV K ∗ ow c (oY c 6) ∗ cred (tallyAt (barCell c) () 2) ∗ atPos ER (barCell c) 0 ∅ 0)
      ⊢ iprop(((ow c (oY c 6) ∗ semVal (barCell c) 0 ∗ barPay c false ∗ barPay c true) -∗ run c (k ⟨⟩) Q)
          -∗ run c (.op (.semWait barS 2) k) Q) := by
  unfold ow
  iintro ⟨#HR, ⟨%W, HO⟩, Hc, Ha⟩ Hk
  ihave #Hi := (inv_at sV K (c, none)) $$ HR
  iapply (Rounds.wp_wait_rest_token 𝒱₀ ER (sched sV) (c : Thread nD τ) none (κ := K (c, none))
      (wpE_semWait_eq 𝒱₀ (c : Thread nD τ) none Set.univ) (Set.mem_univ _) () (O := oY c 6) (W := W) (R := 0) (m := 0) (T := ∅)
      (by rw [expect_bar])) $$ [Hc HO Ha]
  · isplitr; · iexact Hi
    isplitl [Hc]; · iexact Hc
    isplitl [HO]; · iexact HO
    isplitr; · iapply (mayWait_bar c); iapply (recs_lev sV K); iexact HR
    iexact Ha
  iintro ⟨HO, Ha, -, Hpay⟩
  ihave Hp := (Entails.of_eq (rest_bar sV c)) $$ Hpay
  imod (Rounds.cell_close ER (sched sV) (Set.mem_univ (K (c, none))) (fun h => h) (R := 0 + 1) (duties_later sV (barCell c))) $$ [Ha] with Hz
  · isplitr; · iexact Hi
    iexact Ha
  iapply Hk
  isplitl [HO]; · iexists _; iexact HO
  isplitl [Hz]; · iexact Hz
  iexact Hp

/-! ## The kernel's own semaphores -/

/-- A wait on one of the kernel's own semaphores: what the arrival hands over comes with it, and the cell closes at zero. -/
theorem wp_take (a : Fin 4) (j : Fin 6) {q : DmaSem sig} (hq : q = dq a j) (O : CellTallies nD τ sig Unit)
    (hO : (levAts L lv : sProp 𝕄) ⊢ MayWait (c : Thread nD τ) (.dma (dq a j)) () O)
    {s s' : Shape} {e e' : EltTy} {sp sp' : Space}
    {src : Memref sig .tc sp' s' e'} {dst : Memref sig .tc sp s e} {hsrc : src.view.WordExact} {hdst : dst.view.WordExact}
    (hN : dst.view.dmaCredit = Nk j) {α : Type} {Q : α → sProp 𝕄} {k : PUnit → Prog (TpuEff nD τ sig (Elt F) Λ₀ .tc) α} :
    iprop(recs sV K ∗ ow c O ∗ cred (tallyAt (dCell c a j) () (Nk j)) ∗ atPos ER (dCell c a j) 0 ∅ 0)
      ⊢ iprop(((ow c O ∗ semVal (dCell c a j) 0 ∗ dmaPay sV c (dq a j)) -∗ run c (k ⟨⟩) Q)
          -∗ run c (.op (.waitDma2 q src dst hsrc hdst) k) Q) := by
  subst hq
  unfold ow
  iintro ⟨#HR, ⟨%W, HO⟩, Hc, Ha⟩ Hk
  ihave #Hi := (inv_at sV K (c, some (a, j))) $$ HR
  iapply (Rounds.wp_wait_rest_token 𝒱₀ ER (sched sV) (c : Thread nD τ) none (κ := K (c, some (a, j)))
      (wpE_waitDma2_eq 𝒱₀ (c : Thread nD τ) none Set.univ) (Set.mem_univ _) () (O := O) (W := W) (R := 0) (m := 0) (T := ∅)
      (by rw [Nat.zero_add, expect_dma, hN])) $$ [Hc HO Ha]
  · isplitr; · iexact Hi
    isplitl [Hc]; · rw [hN]; iexact Hc
    isplitl [HO]; · iexact HO
    isplitr; · iapply hO; iapply (recs_lev sV K); iexact HR
    iexact Ha
  iintro ⟨HO, Ha, -, Hpay⟩
  ihave Hp := (Entails.of_eq (rest_dma sV c a j)) $$ Hpay
  imod (Rounds.cell_close ER (sched sV) (Set.mem_univ (K (c, some (a, j)))) (fun h => h) (R := 0 + 1) (duties_later sV (dCell c a j))) $$ [Ha] with Hz
  · isplitr; · iexact Hi
    iexact Ha
  iapply Hk
  isplitl [HO]; · iexists _; iexact HO
  isplitl [Hz]; · iexact Hz
  iexact Hp

/-- The send of chunk `j` to the `y` neighbour: the chunk is lent out until the send semaphore is waited on. -/
theorem wp_sendY (j : Fin 6) (n : ℕ) (hj : rev6 n = j) {d : Dev nD} (hd : d = py c) {o w : ℕ} (ho : off j = o) (hw : wd j = w) {h}
    {qs qr : DmaSem sig} (hqs : qs = dq 0 j) (hqr : qr = dq 1 j)
    {hsc : (ryM.slice (rk o w h) (fun _ => rfl) : Memref sig (Dev.tc d : Thread nD τ).2.kind .vmem _ .bf16).view.ref.isScScratch = false}
    {hsrc : (sM.slice (rk o w h) (fun _ => rfl)).view.WordExact}
    {hdst : (ryM.slice (rk o w h) (fun _ => rfl)).view.WordExact}
    {hsem : DmaTarget.Typed .vmem (.dma qr) (.remote (Dev.tc d : Thread nD τ) (ryM.slice (rk o w h) (fun _ => rfl)) (.dma qs) hsc)}
    (hN : (ryM.slice (rk o w h) (fun _ => rfl)).view.dmaCredit = Nk j) {α : Type} {Q : α → sProp 𝕄} {k : PUnit → Prog (TpuEff nD τ sig (Elt F) Λ₀ .tc) α} :
    iprop(recs sV K ∗ ow c (oY c (n + 1)) ∗ sPts c j (sV c) ∗ (∃ f : HBuf F, ryPts (py c) j fullShare f)
        ∗ dutyTok ER (dCell c 0 j) 0 false ∗ dutyTok ER (dCell (py c) 1 j) 0 false)
      ⊢ iprop(((ow c (oY c n) ∗ cred (tallyAt (dCell c 0 j) () (Nk j))) -∗ run c (k ⟨⟩) Q)
          -∗ run c (.op (.enqueueDma (sM.slice (rk o w h) (fun _ => rfl)) (.remote (Dev.tc d : Thread nD τ) (ryM.slice (rk o w h) (fun _ => rfl)) (.dma qs) hsc) (.dma qr) hsrc hdst hsem) k) Q) := by
  subst hd hqs hqr
  unfold ow
  iintro ⟨#HR, ⟨%W, HO⟩, Hs, ⟨%fd, Hd⟩, Ht1, Ht2⟩ Hk
  ihave #Hi1 := (inv_at sV K (c, some (0, j))) $$ HR
  ihave #Hr1 := (reached_at sV K (c, some (0, j))) $$ HR
  ihave #Hi2 := (inv_at sV K (py c, some (1, j))) $$ HR
  ihave #Hr2 := (reached_at sV K (py c, some (1, j))) $$ HR
  have hs1 : (sM.slice (rk o w h) (fun _ => rfl)).view.set = cols j := (View.set_slice_whole _ _).trans (rk_set j ho hw h)
  have hs2 : (ryM.slice (rk o w h) (fun _ => rfl)).view.set = cols j := (View.set_slice_whole _ _).trans (rk_set j ho hw h)
  iapply (Rounds.wp_send_pointsTo 𝒱₀ ER (sched sV) (c : Thread nD τ) none (κ₁ := K (c, some (0, j))) (κ₂ := K (py c, some (1, j)))
    (r₁ := 0) (r₂ := 0) (d₁ := false) (d₂ := false) (fd := fd) (fs := sV c) (q := fullShare)
    (c' := (py c : Thread nD τ)) (src := (sM.slice (rk o w h) (fun _ => rfl) : Memref sig (Dev.tc c : Thread nD τ).2.kind .vmem _ .bf16))
    (dst := (ryM.slice (rk o w h) (fun _ => rfl) : Memref sig (Dev.tc (py c) : Thread nD τ).2.kind .vmem _ .bf16))
    (sS := .dma (dq 0 j)) (sem := .dma (dq 1 j))
    (by rw [duties_dma]; exact Finset.mem_singleton_self _) (by rw [duties_dma]; exact Finset.mem_singleton_self _)
    () () (Nk j) hN (amount_dma sV c 0 j false) (amount_dma sV (py c) 1 j false) (oY c n) (by subst hj; rfl) (W := W)
    (by rw [payload_dma, pay_sy, hs1]; exact BI.Entails.refl _)
    (by
      rw [payload_dma, pay_ry, py_py, hs2]; unfold ryPts
      refine Entails.of_eq (pointsTo_congr fun i hi => ?_)
      exact copy_y h fd (sV c) i (by rw [rk_set j ho hw h]; exact hi))) $$ [HO Hs Hd Ht1 Ht2]
  · isplitr; · iexact Hi1
    isplitr; · iexact Hi2
    isplitl [Hs]; · rw [hs1]; unfold sPts; iexact Hs
    isplitl [Hd]; · rw [hs2]; unfold ryPts; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  iexact Hc

/-- The forward of chunk `j`, received from the `y` neighbour, to the `x` neighbour: half of it is lent out. -/
theorem wp_sendX (j : Fin 6) (n : ℕ) (hj : rev6 n = j) {d : Dev nD} (hd : d = px c) {o w : ℕ} (ho : off j = o) (hw : wd j = w) {h}
    {qs qr : DmaSem sig} (hqs : qs = dq 2 j) (hqr : qr = dq 3 j)
    {hsc : (rxM.slice (rk o w h) (fun _ => rfl) : Memref sig (Dev.tc d : Thread nD τ).2.kind .vmem _ .bf16).view.ref.isScScratch = false}
    {hsrc : (ryM.slice (rk o w h) (fun _ => rfl)).view.WordExact}
    {hdst : (rxM.slice (rk o w h) (fun _ => rfl)).view.WordExact}
    {hsem : DmaTarget.Typed .vmem (.dma qr) (.remote (Dev.tc d : Thread nD τ) (rxM.slice (rk o w h) (fun _ => rfl)) (.dma qs) hsc)}
    (hN : (rxM.slice (rk o w h) (fun _ => rfl)).view.dmaCredit = Nk j) {α : Type} {Q : α → sProp 𝕄} {k : PUnit → Prog (TpuEff nD τ sig (Elt F) Λ₀ .tc) α} :
    iprop(recs sV K ∗ ow c (oX c (n + 1)) ∗ ryPts c j fullShare.left (sV (py c)) ∗ (∃ f : HBuf F, rxPts (px c) j f)
        ∗ dutyTok ER (dCell c 2 j) 0 false ∗ dutyTok ER (dCell (px c) 3 j) 0 false)
      ⊢ iprop(((ow c (oX c n) ∗ cred (tallyAt (dCell c 2 j) () (Nk j))) -∗ run c (k ⟨⟩) Q)
          -∗ run c (.op (.enqueueDma (ryM.slice (rk o w h) (fun _ => rfl)) (.remote (Dev.tc d : Thread nD τ) (rxM.slice (rk o w h) (fun _ => rfl)) (.dma qs) hsc) (.dma qr) hsrc hdst hsem) k) Q) := by
  subst hd hqs hqr
  unfold ow
  iintro ⟨#HR, ⟨%W, HO⟩, Hs, ⟨%fd, Hd⟩, Ht1, Ht2⟩ Hk
  ihave #Hi1 := (inv_at sV K (c, some (2, j))) $$ HR
  ihave #Hr1 := (reached_at sV K (c, some (2, j))) $$ HR
  ihave #Hi2 := (inv_at sV K (px c, some (3, j))) $$ HR
  ihave #Hr2 := (reached_at sV K (px c, some (3, j))) $$ HR
  have hs1 : (ryM.slice (rk o w h) (fun _ => rfl)).view.set = cols j := (View.set_slice_whole _ _).trans (rk_set j ho hw h)
  have hs2 : (rxM.slice (rk o w h) (fun _ => rfl)).view.set = cols j := (View.set_slice_whole _ _).trans (rk_set j ho hw h)
  iapply (Rounds.wp_send_pointsTo 𝒱₀ ER (sched sV) (c : Thread nD τ) none (κ₁ := K (c, some (2, j))) (κ₂ := K (px c, some (3, j)))
    (r₁ := 0) (r₂ := 0) (d₁ := false) (d₂ := false) (fd := fd) (fs := sV (py c)) (q := fullShare.left)
    (c' := (px c : Thread nD τ)) (src := (ryM.slice (rk o w h) (fun _ => rfl) : Memref sig (Dev.tc c : Thread nD τ).2.kind .vmem _ .bf16))
    (dst := (rxM.slice (rk o w h) (fun _ => rfl) : Memref sig (Dev.tc (px c) : Thread nD τ).2.kind .vmem _ .bf16))
    (sS := .dma (dq 2 j)) (sem := .dma (dq 3 j))
    (by rw [duties_dma]; exact Finset.mem_singleton_self _) (by rw [duties_dma]; exact Finset.mem_singleton_self _)
    () () (Nk j) hN (amount_dma sV c 2 j false) (amount_dma sV (px c) 3 j false) (oX c n) (by subst hj; rfl) (W := W)
    (by rw [payload_dma, pay_sx, hs1]; exact BI.Entails.refl _)
    (by
      rw [payload_dma, pay_rx, px_px, hs2]; unfold rxPts
      refine Entails.of_eq (pointsTo_congr fun i hi => ?_)
      exact copy_x h fd (sV (py c)) i (by rw [rk_set j ho hw h]; exact hi))) $$ [HO Hs Hd Ht1 Ht2]
  · isplitr; · iexact Hi1
    isplitr; · iexact Hi2
    isplitl [Hs]; · rw [hs1]; unfold ryPts; iexact Hs
    isplitl [Hd]; · rw [hs2]; unfold rxPts; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  iexact Hc

end Cert.SoftmaxProof

end
-- ==== Proof.Contents.lean ====
/-
What the kernel's buffers hold: the logits a device computes, chunk by chunk; the half it sends; the exponentials it
gathers; the row sums and the result.
-/
module

public import proofs.«01_k».proof.Proof.Cells

@[expose] public section

noncomputable section

namespace Cert.SoftmaxProof

open Cert.KernelIdeal Cert.KernelIdeal.Gen
open Idealize.ShloMosaic Idealize.ShloMosaic.TcCoe

variable {F : FTy → Type} [FloatOps F]

/-! ## Columns of a matrix -/

/-- The `w` columns of `f` from column `a` on (wrapping around past the last). -/
def cut {α : Type} {R n : ℕ} [NeZero n] (a w : ℕ) (f : (⟨2, ![R, n]⟩ : Shape).Idx → α) : (⟨2, ![R, w]⟩ : Shape).Idx → α :=
  fun i => f (Shape.pair (d := ![R, n]) (i 0) ⟨(a + (i 1).val) % n, Nat.mod_lt _ (NeZero.pos n)⟩)

/-- Two entries of a matrix at the same row and column are one. -/
theorem entry_eq {α : Type} {R n : ℕ} (f : (⟨2, ![R, n]⟩ : Shape).Idx → α) (i j : (⟨2, ![R, n]⟩ : Shape).Idx)
    (h0 : (i 0).val = (j 0).val) (h1 : (i 1).val = (j 1).val) : f i = f j := by
  congr 1; funext b; apply Fin.ext
  fin_cases b
  · exact h0
  · exact h1

/-- Columns of columns. -/
theorem cut_cut {α : Type} {R n m : ℕ} [NeZero n] [NeZero m] (a b w : ℕ) (f : (⟨2, ![R, n]⟩ : Shape).Idx → α)
    (h : b + w ≤ m) (h' : a + m ≤ n) : cut b w (cut a m f) = cut (a + b) w f := by
  funext i
  have hi : (i 1).val < w := (i 1).isLt
  refine entry_eq f _ _ rfl ?_
  show (a + (b + (i 1).val) % m) % n = (a + b + (i 1).val) % n
  rw [Nat.mod_eq_of_lt (show b + (i 1).val < m by omega), Nat.add_assoc]

/-- All the columns. -/
theorem cut_all {α : Type} {R n : ℕ} [NeZero n] (f : (⟨2, ![R, n]⟩ : Shape).Idx → α) : cut 0 n f = f := by
  funext i
  have hi : (i 1).val < n := (i 1).isLt
  refine entry_eq f _ _ rfl ?_
  show (0 + (i 1).val) % n = (i 1).val
  rw [Nat.zero_add, Nat.mod_eq_of_lt hi]

/-! ## Logits -/

/-- The product of `x` with 128 columns of the weights. -/
def bk128 (x : Vec F S256x512 .f32) (w : Vec F S512x128 .f32) : Vec F S256x128 .f32 :=
  matmul dot_S256x512_S512x128_S256x128_1_0_0_1_n_n none x w (constant S256x128 .f32 0x00000000#32)
/-- The product of `x` with 384 columns of the weights. -/
def bk384 (x : Vec F S256x512 .f32) (w : Vec F S512x384 .f32) : Vec F S256x384 .f32 :=
  matmul dot_S256x512_S512x384_S256x384_1_0_0_1_n_n none x w (constant S256x384 .f32 0x00000000#32)
/-- The product of `x` with 512 columns of the weights. -/
def bk512 (x : Vec F S256x512 .f32) (w : Vec F S512x512 .f32) : Vec F S256x512 .f32 :=
  matmul dot_S256x512_S512x512_S256x512_1_0_0_1_n_n none x w (constant S256x512 .f32 0x00000000#32)

variable (x : Vec F S256x512 .f32) (w : Vec F S512x4096 .f32)

/-- Row `r` of the logits at column `b + j`, where `b` is the first column of a half and `j` the column within the half,
    computed with the chunk `j` lies in. -/
def lgAt (r : Fin 256) (b j : ℕ) : Elt F .f32 :=
  if j < 128 then bk128 x (cut (b + 0) 128 w) (Shape.pair (d := ![256, 128]) r ⟨(j - 0) % 128, Nat.mod_lt _ (by decide)⟩) else
  if j < 512 then bk384 x (cut (b + 128) 384 w) (Shape.pair (d := ![256, 384]) r ⟨(j - 128) % 384, Nat.mod_lt _ (by decide)⟩) else
  if j < 1024 then bk512 x (cut (b + 512) 512 w) (Shape.pair (d := ![256, 512]) r ⟨(j - 512) % 512, Nat.mod_lt _ (by decide)⟩) else
  if j < 1536 then bk512 x (cut (b + 1024) 512 w) (Shape.pair (d := ![256, 512]) r ⟨(j - 1024) % 512, Nat.mod_lt _ (by decide)⟩) else
  if j < 1920 then bk384 x (cut (b + 1536) 384 w) (Shape.pair (d := ![256, 384]) r ⟨(j - 1536) % 384, Nat.mod_lt _ (by decide)⟩) else
  bk128 x (cut (b + 1920) 128 w) (Shape.pair (d := ![256, 128]) r ⟨(j - 1920) % 128, Nat.mod_lt _ (by decide)⟩)

/-- The device's logits: `x` times its block of the weights. -/
def lg : Vec F S256x4096 .f32 := fun i => lgAt x w (i 0) (2048 * ((i 1).val / 2048)) ((i 1).val % 2048)

/-- Chunk 0 of half `H` of the logits is one product. -/
theorem lg_cut0 (H a : ℕ) (hH : H < 2) (ha : a = 2048 * H + 0) : cut a 128 (lg x w) = bk128 x (cut a 128 w) := by
  subst ha
  funext i
  have hi : (i 1).val < 128 := (i 1).isLt
  show lgAt x w (i 0) (2048 * ((2048 * H + 0 + (i 1).val) % 4096 / 2048)) ((2048 * H + 0 + (i 1).val) % 4096 % 2048) = _
  rw [show (2048 * H + 0 + (i 1).val) % 4096 / 2048 = H by omega, show (2048 * H + 0 + (i 1).val) % 4096 % 2048 = 0 + (i 1).val by omega]
  unfold lgAt
  rw [if_pos (show 0 + (i 1).val < 128 by omega)]
  refine entry_eq (bk128 x (cut (2048 * H + 0) 128 w)) _ _ rfl ?_
  show (0 + (i 1).val - 0) % 128 = (i 1).val
  rw [Nat.add_sub_cancel_left, Nat.mod_eq_of_lt hi]

/-- Chunk 1 of half `H` of the logits is one product. -/
theorem lg_cut1 (H a : ℕ) (hH : H < 2) (ha : a = 2048 * H + 128) : cut a 384 (lg x w) = bk384 x (cut a 384 w) := by
  subst ha
  funext i
  have hi : (i 1).val < 384 := (i 1).isLt
  show lgAt x w (i 0) (2048 * ((2048 * H + 128 + (i 1).val) % 4096 / 2048)) ((2048 * H + 128 + (i 1).val) % 4096 % 2048) = _
  rw [show (2048 * H + 128 + (i 1).val) % 4096 / 2048 = H by omega, show (2048 * H + 128 + (i 1).val) % 4096 % 2048 = 128 + (i 1).val by omega]
  unfold lgAt
  rw [if_neg (show ¬ 128 + (i 1).val < 128 by omega), if_pos (show 128 + (i 1).val < 512 by omega)]
  refine entry_eq (bk384 x (cut (2048 * H + 128) 384 w)) _ _ rfl ?_
  show (128 + (i 1).val - 128) % 384 = (i 1).val
  rw [Nat.add_sub_cancel_left, Nat.mod_eq_of_lt hi]

/-- Chunk 2 of half `H` of the logits is one product. -/
theorem lg_cut2 (H a : ℕ) (hH : H < 2) (ha : a = 2048 * H + 512) : cut a 512 (lg x w) = bk512 x (cut a 512 w) := by
  subst ha
  funext i
  have hi : (i 1).val < 512 := (i 1).isLt
  show lgAt x w (i 0) (2048 * ((2048 * H + 512 + (i 1).val) % 4096 / 2048)) ((2048 * H + 512 + (i 1).val) % 4096 % 2048) = _
  rw [show (2048 * H + 512 + (i 1).val) % 4096 / 2048 = H by omega, show (2048 * H + 512 + (i 1).val) % 4096 % 2048 = 512 + (i 1).val by omega]
  unfold lgAt
  rw [if_neg (show ¬ 512 + (i 1).val < 128 by omega), if_neg (show ¬ 512 + (i 1).val < 512 by omega), if_pos (show 512 + (i 1).val < 1024 by omega)]
  refine entry_eq (bk512 x (cut (2048 * H + 512) 512 w)) _ _ rfl ?_
  show (512 + (i 1).val - 512) % 512 = (i 1).val
  rw [Nat.add_sub_cancel_left, Nat.mod_eq_of_lt hi]

/-- Chunk 3 of half `H` of the logits is one product. -/
theorem lg_cut3 (H a : ℕ) (hH : H < 2) (ha : a = 2048 * H + 1024) : cut a 512 (lg x w) = bk512 x (cut a 512 w) := by
  subst ha
  funext i
  have hi : (i 1).val < 512 := (i 1).isLt
  show lgAt x w (i 0) (2048 * ((2048 * H + 1024 + (i 1).val) % 4096 / 2048)) ((2048 * H + 1024 + (i 1).val) % 4096 % 2048) = _
  rw [show (2048 * H + 1024 + (i 1).val) % 4096 / 2048 = H by omega, show (2048 * H + 1024 + (i 1).val) % 4096 % 2048 = 1024 + (i 1).val by omega]
  unfold lgAt
  rw [if_neg (show ¬ 1024 + (i 1).val < 128 by omega), if_neg (show ¬ 1024 + (i 1).val < 512 by omega), if_neg (show ¬ 1024 + (i 1).val < 1024 by omega), if_pos (show 1024 + (i 1).val < 1536 by omega)]
  refine entry_eq (bk512 x (cut (2048 * H + 1024) 512 w)) _ _ rfl ?_
  show (1024 + (i 1).val - 1024) % 512 = (i 1).val
  rw [Nat.add_sub_cancel_left, Nat.mod_eq_of_lt hi]

/-- Chunk 4 of half `H` of the logits is one product. -/
theorem lg_cut4 (H a : ℕ) (hH : H < 2) (ha : a = 2048 * H + 1536) : cut a 384 (lg x w) = bk384 x (cut a 384 w) := by
  subst ha
  funext i
  have hi : (i 1).val < 384 := (i 1).isLt
  show lgAt x w (i 0) (2048 * ((2048 * H + 1536 + (i 1).val) % 4096 / 2048)) ((2048 * H + 1536 + (i 1).val) % 4096 % 2048) = _
  rw [show (2048 * H + 1536 + (i 1).val) % 4096 / 2048 = H by omega, show (2048 * H + 1536 + (i 1).val) % 4096 % 2048 = 1536 + (i 1).val by omega]
  unfold lgAt
  rw [if_neg (show ¬ 1536 + (i 1).val < 128 by omega), if_neg (show ¬ 1536 + (i 1).val < 512 by omega), if_neg (show ¬ 1536 + (i 1).val < 1024 by omega), if_neg (show ¬ 1536 + (i 1).val < 1536 by omega), if_pos (show 1536 + (i 1).val < 1920 by omega)]
  refine entry_eq (bk384 x (cut (2048 * H + 1536) 384 w)) _ _ rfl ?_
  show (1536 + (i 1).val - 1536) % 384 = (i 1).val
  rw [Nat.add_sub_cancel_left, Nat.mod_eq_of_lt hi]

/-- Chunk 5 of half `H` of the logits is one product. -/
theorem lg_cut5 (H a : ℕ) (hH : H < 2) (ha : a = 2048 * H + 1920) : cut a 128 (lg x w) = bk128 x (cut a 128 w) := by
  subst ha
  funext i
  have hi : (i 1).val < 128 := (i 1).isLt
  show lgAt x w (i 0) (2048 * ((2048 * H + 1920 + (i 1).val) % 4096 / 2048)) ((2048 * H + 1920 + (i 1).val) % 4096 % 2048) = _
  rw [show (2048 * H + 1920 + (i 1).val) % 4096 / 2048 = H by omega, show (2048 * H + 1920 + (i 1).val) % 4096 % 2048 = 1920 + (i 1).val by omega]
  unfold lgAt
  rw [if_neg (show ¬ 1920 + (i 1).val < 128 by omega), if_neg (show ¬ 1920 + (i 1).val < 512 by omega), if_neg (show ¬ 1920 + (i 1).val < 1024 by omega), if_neg (show ¬ 1920 + (i 1).val < 1536 by omega), if_neg (show ¬ 1920 + (i 1).val < 1920 by omega)]
  refine entry_eq (bk128 x (cut (2048 * H + 1920) 128 w)) _ _ rfl ?_
  show (1920 + (i 1).val - 1920) % 128 = (i 1).val
  rw [Nat.add_sub_cancel_left, Nat.mod_eq_of_lt hi]

/-! ## What each device sends, gathers and sums -/

section All

variable (X : Dev nD → Vec F S256x512 .f32) (W : Dev nD → Vec F S512x4096 .f32) (c : Dev nD)

/-- The logits of device `c`. -/
def lgD : Vec F S256x4096 .f32 := lg (X c) (W c)

/-- The half device `c` sends: the columns its `x` coordinate names, in the sent format. -/
def sD : HBuf F := truncf .bf16 (cut (2048 * (c.val / 2)) 2048 (lgD X W c) : Vec F S256x2048 .f32) bitsLt_bf16_f32

/-- The exponentials of received logits. -/
def exB {s : Shape} (v : Vec F s .bf16) : Vec F s .f32 := exp (extf .f32 v bitsLt_bf16_f32)

/-- The exponentials device `c` gathers: of its own logits, of its `y` neighbour's half, of the half its `x` neighbour
    forwards. -/
def exD : Vec F S256x8192 .f32 := fun i =>
  if (i 1).val / 4096 = c.val % 2 then
    exp (lgD X W c) (Shape.pair (d := ![256, 4096]) (i 0) ⟨(i 1).val % 4096, Nat.mod_lt _ (by decide)⟩)
  else if (i 1).val % 4096 / 2048 = c.val / 2 then
    exB (sD X W (py c)) (Shape.pair (d := ![256, 2048]) (i 0) ⟨(i 1).val % 2048, Nat.mod_lt _ (by decide)⟩)
  else exB (sD X W (py (px c))) (Shape.pair (d := ![256, 2048]) (i 0) ⟨(i 1).val % 2048, Nat.mod_lt _ (by decide)⟩)

/-- Chunk `o`, `w` columns wide, of the `y` neighbour's half. -/
abbrev ryD (o w : ℕ) : (⟨2, ![256, w]⟩ : Shape).Idx → Elt F .bf16 := cut o w (sD X W (py c))
/-- Chunk `o`, `w` columns wide, of the forwarded half. -/
abbrev rxD (o w : ℕ) : (⟨2, ![256, w]⟩ : Shape).Idx → Elt F .bf16 := cut o w (sD X W (py (px c)))

/-- The row sums after each piece, in the kernel's order. -/
def sum1 : FVec F S256x1 .f32 := k0_pay26 k0_pay23 (ryD X W c 0 128)
def sum2 : FVec F S256x1 .f32 := k0_pay29 (sum1 X W c) (ryD X W c 128 384)
def sum3 : FVec F S256x1 .f32 := k0_pay33 (sum2 X W c) (k0_pay31 (ryD X W c 512 512)) (rxD X W c 0 128)
def sum4 : FVec F S256x1 .f32 := k0_pay36 (sum3 X W c) (ryD X W c 1024 512)
def sum5 : FVec F S256x1 .f32 := k0_pay38 (sum4 X W c) (rxD X W c 128 384)
def sum6 : FVec F S256x1 .f32 := k0_pay41 (sum5 X W c) (ryD X W c 1536 384)
def sum7 : FVec F S256x1 .f32 := k0_pay43 (sum6 X W c) (rxD X W c 512 512)
def sum8 : FVec F S256x1 .f32 := k0_pay47 (sum7 X W c) (ryD X W c 1920 128)
def sum9 : FVec F S256x1 .f32 := k0_pay52 (sum8 X W c) (k0_pay49 (rxD X W c 1024 512)) (lgD X W c) (rxD X W c 1536 384)

/-- The result on device `c`. -/
def outD : Vec F S256x8192 .f32 := k0_pay54 (sum9 X W c) (rxD X W c 1920 128) (exD X W c)

/-- Columns of the sent half are columns of the logits, in the sent format. -/
theorem sD_cut (o v : ℕ) (h : o + v ≤ 2048) :
    cut o v (sD X W c) = truncf .bf16 (cut (2048 * (c.val / 2) + o) v (lgD X W c) : Vec F (⟨2, ![256, v]⟩ : Shape) .f32) bitsLt_bf16_f32 := by
  have hc : c.val < 4 := c.isLt
  rw [← cut_cut (m := 2048) (2048 * (c.val / 2)) o v (lgD X W c) h (by omega)]
  rfl

/-- The device's own half of the gathered exponentials. -/
theorem exD_own : cut (4096 * (c.val % 2)) 4096 (exD X W c) = exp (lgD X W c) := by
  funext i
  have hi : (i 1).val < 4096 := (i 1).isLt
  have e : ((4096 * (c.val % 2) + (i 1).val) % 8192) / 4096 = c.val % 2 := by omega
  show (if ((4096 * (c.val % 2) + (i 1).val) % 8192) / 4096 = c.val % 2 then _ else _) = _
  rw [if_pos e]
  refine entry_eq (exp (lgD X W c)) _ _ rfl ?_
  show ((4096 * (c.val % 2) + (i 1).val) % 8192) % 4096 = (i 1).val
  omega

/-- The columns of the gathered exponentials a chunk of the `y` neighbour's half fills. -/
theorem exD_ry (a o v : ℕ) (h : o + v ≤ 2048) (ha : a = 4096 * (1 - c.val % 2) + 2048 * (c.val / 2) + o) :
    cut a v (exD X W c) = exB (ryD X W c o v) := by
  subst ha
  funext i
  have hc : c.val < 4 := c.isLt
  have hq : c.val % 2 < 2 := Nat.mod_lt _ (by decide)
  have hq2 : c.val / 2 < 2 := by omega
  generalize hy : c.val % 2 = y at *
  generalize hx : c.val / 2 = z at *
  have hi : (i 1).val < v := (i 1).isLt
  have hy01 : y = 0 ∨ y = 1 := by omega
  have hz01 : z = 0 ∨ z = 1 := by omega
  have e1 : ¬ ((4096 * (1 - y) + 2048 * z + o + (i 1).val) % 8192) / 4096 = y := by
    rcases hy01 with rfl | rfl <;> rcases hz01 with rfl | rfl <;> omega
  have e2 : ((4096 * (1 - y) + 2048 * z + o + (i 1).val) % 8192) % 4096 / 2048 = z := by
    rcases hy01 with rfl | rfl <;> rcases hz01 with rfl | rfl <;> omega
  show (if ((4096 * (1 - y) + 2048 * z + o + (i 1).val) % 8192) / 4096 = c.val % 2 then _
    else if ((4096 * (1 - y) + 2048 * z + o + (i 1).val) % 8192) % 4096 / 2048 = c.val / 2 then _ else _) = _
  rw [hy, hx, if_neg e1, if_pos e2]
  refine entry_eq (exB (sD X W (py c))) _ _ rfl ?_
  show ((4096 * (1 - y) + 2048 * z + o + (i 1).val) % 8192) % 2048 = (o + (i 1).val) % 2048
  omega

/-- The columns a chunk of the forwarded half fills. -/
theorem exD_rx (a o v : ℕ) (h : o + v ≤ 2048) (ha : a = 4096 * (1 - c.val % 2) + 2048 * (1 - c.val / 2) + o) :
    cut a v (exD X W c) = exB (rxD X W c o v) := by
  subst ha
  funext i
  have hc : c.val < 4 := c.isLt
  have hq : c.val % 2 < 2 := Nat.mod_lt _ (by decide)
  have hq2 : c.val / 2 < 2 := by omega
  generalize hy : c.val % 2 = y at *
  generalize hx : c.val / 2 = z at *
  have hi : (i 1).val < v := (i 1).isLt
  have hy01 : y = 0 ∨ y = 1 := by omega
  have hz01 : z = 0 ∨ z = 1 := by omega
  have e1 : ¬ ((4096 * (1 - y) + 2048 * (1 - z) + o + (i 1).val) % 8192) / 4096 = y := by
    rcases hy01 with rfl | rfl <;> rcases hz01 with rfl | rfl <;> omega
  have e2 : ¬ ((4096 * (1 - y) + 2048 * (1 - z) + o + (i 1).val) % 8192) % 4096 / 2048 = z := by
    rcases hy01 with rfl | rfl <;> rcases hz01 with rfl | rfl <;> omega
  show (if ((4096 * (1 - y) + 2048 * (1 - z) + o + (i 1).val) % 8192) / 4096 = c.val % 2 then _
    else if ((4096 * (1 - y) + 2048 * (1 - z) + o + (i 1).val) % 8192) % 4096 / 2048 = c.val / 2 then _ else _) = _
  rw [hy, hx, if_neg e1, if_neg e2]
  refine entry_eq (exB (sD X W (py (px c)))) _ _ rfl ?_
  show ((4096 * (1 - y) + 2048 * (1 - z) + o + (i 1).val) % 8192) % 2048 = (o + (i 1).val) % 2048
  omega

end All

end Cert.SoftmaxProof

end
-- ==== Proof.Access.lean ====
/-
The kernel's reads and writes of its own buffers: what a read of columns gives, and what a write of columns leaves.
-/
module

public import proofs.«01_k».proof.Proof.Steps
public import proofs.«01_k».proof.Proof.Contents

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Inputs -/

/-- The staged `x` of device `c`. -/
def xPts (f : Vec F S256x512 .f32) : sProp 𝕄 := ((c : Thread nD τ).loc cc0_stg0_0) ↦{fullShare} f
/-- The staged weights of device `c`. -/
def wPts (f : Vec F S512x4096 .f32) : sProp 𝕄 := ((c : Thread nD τ).loc cc0_stg1_0) ↦{fullShare} f
/-- The buffer of device `c`'s logits. -/
def lPts (f : Vec F S256x4096 .f32) : sProp 𝕄 := ((c : Thread nD τ).loc cc0_scratch0) ↦{fullShare} f
/-- The staged result of device `c`. -/
def oPts (f : Vec F S256x8192 .f32) : sProp 𝕄 := ((c : Thread nD τ).loc cc0_stg2_0) ↦{fullShare} f

theorem zero_off : (![0, 0] : Fin 2 → Nat) = fun _ => 0 := funext fun a => by fin_cases a <;> rfl

/-- A read of the whole of the buffer gives its contents. -/
theorem run_read_x {f : Vec F S256x512 .f32} {h} {hl} {α : Type} {Q : α → sProp 𝕄} {k : Vec F S256x512 .f32 → Prog (TpuEff nD τ sig (Elt F) Λ₀ .tc) α} :
    xPts c f ⊢ iprop((xPts c f -∗ run c (k f) Q)
      -∗ run c (.op (.load xM (Rect.unit (s := S256x512) ![0, 0] S256x512.size h).toLoadRect hl) k) Q) := by
  unfold xPts
  iintro H Hk
  iapply (wp_load 𝒱₀ (c : Thread nD τ) none Set.univ (m := xM) (Finset.subset_univ _)) $$ H
  iintro H
  rw [show xM.view.readAt (Elt F) (Rect.unit (s := S256x512) ![0, 0] S256x512.size h).toLoadRect f = f from Memref.readAt_unit_zero (Elt F) cc0_stg0_0 zero_off _ f]
  iapply Hk; iexact H

/-- A read of the whole of the buffer gives its contents. -/
theorem run_read_l {f : Vec F S256x4096 .f32} {h} {hl} {α : Type} {Q : α → sProp 𝕄} {k : Vec F S256x4096 .f32 → Prog (TpuEff nD τ sig (Elt F) Λ₀ .tc) α} :
    lPts c f ⊢ iprop((lPts c f -∗ run c (k f) Q)
      -∗ run c (.op (.load lM (Rect.unit (s := S256x4096) ![0, 0] S256x4096.size h).toLoadRect hl) k) Q) := by
  unfold lPts
  iintro H Hk
  iapply (wp_load 𝒱₀ (c : Thread nD τ) none Set.univ (m := lM) (Finset.subset_univ _)) $$ H
  iintro H
  rw [show lM.view.readAt (Elt F) (Rect.unit (s := S256x4096) ![0, 0] S256x4096.size h).toLoadRect f = f from Memref.readAt_unit_zero (Elt F) cc0_scratch0 zero_off _ f]
  iapply Hk; iexact H

/-- A read of the whole of the buffer gives its contents. -/
theorem run_read_o {f : Vec F S256x8192 .f32} {h} {hl} {α : Type} {Q : α → sProp 𝕄} {k : Vec F S256x8192 .f32 → Prog (TpuEff nD τ sig (Elt F) Λ₀ .tc) α} :
    oPts c f ⊢ iprop((oPts c f -∗ run c (k f) Q)
      -∗ run c (.op (.load oM (Rect.unit (s := S256x8192) ![0, 0] S256x8192.size h).toLoadRect hl) k) Q) := by
  unfold oPts
  iintro H Hk
  iapply (wp_load 𝒱₀ (c : Thread nD τ) none Set.univ (m := oM) (Finset.subset_univ _)) $$ H
  iintro H
  rw [show oM.view.readAt (Elt F) (Rect.unit (s := S256x8192) ![0, 0] S256x8192.size h).toLoadRect f = f from Memref.readAt_unit_zero (Elt F) cc0_stg2_0 zero_off _ f]
  iapply Hk; iexact H

/-- A read of columns of the weights gives those columns. -/
theorem run_read_w {f : Vec F S512x4096 .f32} (v a : ℕ) {o : Fin 2 → ℕ} (ho : o = ![0, a]) {h} {hl} {α : Type} {Q : α → sProp 𝕄}
    {k : Vec F (⟨2, ![512, v]⟩ : Shape) .f32 → Prog (TpuEff nD τ sig (Elt F) Λ₀ .tc) α} :
    wPts c f ⊢ iprop((wPts c f -∗ run c (k (cut a v f)) Q)
      -∗ run c (.op (.load wM (Rect.unit (s := S512x4096) o (⟨2, ![512, v]⟩ : Shape).size h).toLoadRect hl) k) Q) := by
  subst ho
  unfold wPts
  iintro H Hk
  iapply (wp_load 𝒱₀ (c : Thread nD τ) none Set.univ (m := wM) (Finset.subset_univ _)) $$ H
  iintro H
  rw [show wM.view.readAt (Elt F) (Rect.unit (s := S512x4096) ![0, a] (⟨2, ![512, v]⟩ : Shape).size h).toLoadRect f = cut a v f by
    funext i
    have hi : (i 1).val < v := (i 1).isLt
    have ha : a + v ≤ 4096 := h 1
    refine entry_eq f _ _ ?_ ?_
    · show 0 + 1 * (i 0).val = (i 0).val; omega
    · show a + 1 * (i 1).val = (a + (i 1).val) % 4096; omega]
  iapply Hk; iexact H

/-- A read of a received chunk gives its columns. -/
theorem run_read_ry (j : Fin 6) {f : HBuf F} {q : PosShare TreeShare} {v o : ℕ} (ho : off j = o) (hv : wd j = v) {h} {hl} {α : Type} {Q : α → sProp 𝕄}
    {k : Vec F (⟨2, ![256, v]⟩ : Shape) .bf16 → Prog (TpuEff nD τ sig (Elt F) Λ₀ .tc) α} :
    ryPts c j q f ⊢ iprop((ryPts c j q f -∗ run c (k (cut o v f)) Q)
      -∗ run c (.op (.load ryM (Rect.unit (s := S256x2048) ![0, o] (⟨2, ![256, v]⟩ : Shape).size h).toLoadRect hl) k) Q) := by
  unfold ryPts
  iintro H Hk
  iapply (wp_load 𝒱₀ (c : Thread nD τ) none Set.univ (m := ryM) (by
    rw [← rk_set j ho hv h]
    intro i hi
    obtain ⟨i', hi', e⟩ := Finset.mem_map.mp hi
    rw [← e]; exact hi')) $$ H
  iintro H
  rw [show ryM.view.readAt (Elt F) (Rect.unit (s := S256x2048) ![0, o] (⟨2, ![256, v]⟩ : Shape).size h).toLoadRect f = cut o v f by
    funext i
    have hi : (i 1).val < v := (i 1).isLt
    have ha : o + v ≤ 2048 := h 1
    refine entry_eq f _ _ ?_ ?_
    · show 0 + 1 * (i 0).val = (i 0).val; omega
    · show o + 1 * (i 1).val = (o + (i 1).val) % 2048; omega]
  iapply Hk; iexact H

/-- A read of a received chunk gives its columns. -/
theorem run_read_rx (j : Fin 6) {f : HBuf F} {v o : ℕ} (ho : off j = o) (hv : wd j = v) {h} {hl} {α : Type} {Q : α → sProp 𝕄}
    {k : Vec F (⟨2, ![256, v]⟩ : Shape) .bf16 → Prog (TpuEff nD τ sig (Elt F) Λ₀ .tc) α} :
    rxPts c j f ⊢ iprop((rxPts c j f -∗ run c (k (cut o v f)) Q)
      -∗ run c (.op (.load rxM (Rect.unit (s := S256x2048) ![0, o] (⟨2, ![256, v]⟩ : Shape).size h).toLoadRect hl) k) Q) := by
  unfold rxPts
  iintro H Hk
  iapply (wp_load 𝒱₀ (c : Thread nD τ) none Set.univ (m := rxM) (by
    rw [← rk_set j ho hv h]
    intro i hi
    obtain ⟨i', hi', e⟩ := Finset.mem_map.mp hi
    rw [← e]; exact hi')) $$ H
  iintro H
  rw [show rxM.view.readAt (Elt F) (Rect.unit (s := S256x2048) ![0, o] (⟨2, ![256, v]⟩ : Shape).size h).toLoadRect f = cut o v f by
    funext i
    have hi : (i 1).val < v := (i 1).isLt
    have ha : o + v ≤ 2048 := h 1
    refine entry_eq f _ _ ?_ ?_
    · show 0 + 1 * (i 0).val = (i 0).val; omega
    · show o + 1 * (i 1).val = (o + (i 1).val) % 2048; omega]
  iapply Hk; iexact H

/-! ## Writes of columns -/

/-- Column `j` is among those listed, as first column and number of columns. -/
def Cov (D : List (ℕ × ℕ)) (j : ℕ) : Prop := ∃ p ∈ D, p.1 ≤ j ∧ j < p.1 + p.2

/-- The buffer holds the target `t` in the columns listed. -/
def lHas (t : Vec F S256x4096 .f32) (D : List (ℕ × ℕ)) : sProp 𝕄 := iprop(∃ f, ⌜∀ i, Cov D (i 1).val → f i = t i⌝ ∗ lPts c f)

/-- A write of columns of the target, after a read whose value is dropped, extends the list. -/
theorem run_put_l {t : Vec F S256x4096 .f32} {D : List (ℕ × ℕ)} (v a : ℕ) {o : Fin 2 → ℕ} (ho : o = ![0, a]) {h} {hl} {hx} {hm}
    {p : Vec F (⟨2, ![256, v]⟩ : Shape) .f32} (hp : p = cut a v t) {α : Type} {Q : α → sProp 𝕄}
    {k : PUnit → Prog (TpuEff nD τ sig (Elt F) Λ₀ .tc) α} :
    lHas c t D ⊢ iprop((lHas c t ((a, v) :: D) -∗ run c (k ⟨⟩) Q)
      -∗ run c (.op (.load lM (Rect.unit (s := S256x4096) o (⟨2, ![256, v]⟩ : Shape).size h).toLoadRect hl) fun _ =>
          .op (.store lM (Rect.unit (s := S256x4096) o (⟨2, ![256, v]⟩ : Shape).size h) p Finset.univ hx hm) k) Q) := by
  subst ho hp
  unfold lHas lPts
  iintro ⟨%f, %hf, H⟩ Hk
  iapply (wp_load 𝒱₀ (c : Thread nD τ) none Set.univ (m := lM) (Finset.subset_univ _)) $$ H
  iintro H
  iapply (wp_store 𝒱₀ (c : Thread nD τ) none Set.univ (m := lM) (r := Rect.unit (s := S256x4096) ![0, a] (⟨2, ![256, v]⟩ : Shape).size h)
    (Mk := Finset.univ) (Finset.subset_univ _)) $$ H
  iintro H
  iapply Hk
  iexists _
  isplitr
  rotate_left
  · iexact H
  · ipureintro
    intro i hi
    have ha : a + v ≤ 4096 := h 1
    by_cases hc : a ≤ (i 1).val ∧ (i 1).val < a + v
    · let y : (⟨2, ![256, v]⟩ : Shape).Idx := Shape.pair (d := ![256, v]) (i 0) ⟨(i 1).val - a, by show _ < v; omega⟩
      have ey : (Rect.unit (s := S256x4096) ![0, a] (⟨2, ![256, v]⟩ : Shape).size h).emb y = i := by
        funext b; apply Fin.ext
        fin_cases b
        · show 0 + 1 * (i 0).val = (i 0).val; omega
        · show a + 1 * ((i 1).val - a) = (i 1).val; omega
      refine (congrArg _ ey.symm).trans ((View.write_emb_of_mem (v := (lM.access (Rect.unit (s := S256x4096) ![0, a] (⟨2, ![256, v]⟩ : Shape).size h))) f _ (Finset.mem_univ y)).trans ?_)
      refine entry_eq t _ _ rfl ?_
      show (a + ((i 1).val - a)) % 4096 = (i 1).val
      have := (i 1).isLt
      have h8 : (i 1).val < 4096 := (i 1).isLt
      omega
    · refine (View.write_of_not_mem (v := (lM.access (Rect.unit (s := S256x4096) ![0, a] (⟨2, ![256, v]⟩ : Shape).size h))) f _ _ ?_).trans (hf i ?_)
      · intro hm'
        obtain ⟨y, -, e⟩ := Finset.mem_map.mp hm'
        apply hc
        have e1 : a + 1 * (y 1).val = (i 1).val := congrArg (fun z : S256x4096.Idx => (z 1).val) e
        have hy : (y 1).val < v := (y 1).isLt
        omega
      · obtain ⟨p, hp, h12⟩ := hi
        rcases List.mem_cons.mp hp with rfl | hp
        · exact absurd h12 hc
        · exact ⟨p, hp, h12⟩

/-- Once every column is listed, the buffer holds the target. -/
theorem lHas_full {t : Vec F S256x4096 .f32} {D : List (ℕ × ℕ)} (hD : ∀ j < 4096, Cov D j) : lHas c t D ⊢ lPts c t := by
  unfold lHas
  iintro ⟨%f, %hf, H⟩
  have e : f = t := funext fun i => hf i (hD _ (i 1).isLt)
  rw [e]; iexact H

/-- The buffer holds the target `t` in the columns listed. -/
def oHas (t : Vec F S256x8192 .f32) (D : List (ℕ × ℕ)) : sProp 𝕄 := iprop(∃ f, ⌜∀ i, Cov D (i 1).val → f i = t i⌝ ∗ oPts c f)

/-- A write of columns of the target, after a read whose value is dropped, extends the list. -/
theorem run_put_o {t : Vec F S256x8192 .f32} {D : List (ℕ × ℕ)} (v a : ℕ) {o : Fin 2 → ℕ} (ho : o = ![0, a]) {h} {hl} {hx} {hm}
    {p : Vec F (⟨2, ![256, v]⟩ : Shape) .f32} (hp : p = cut a v t) {α : Type} {Q : α → sProp 𝕄}
    {k : PUnit → Prog (TpuEff nD τ sig (Elt F) Λ₀ .tc) α} :
    oHas c t D ⊢ iprop((oHas c t ((a, v) :: D) -∗ run c (k ⟨⟩) Q)
      -∗ run c (.op (.load oM (Rect.unit (s := S256x8192) o (⟨2, ![256, v]⟩ : Shape).size h).toLoadRect hl) fun _ =>
          .op (.store oM (Rect.unit (s := S256x8192) o (⟨2, ![256, v]⟩ : Shape).size h) p Finset.univ hx hm) k) Q) := by
  subst ho hp
  unfold oHas oPts
  iintro ⟨%f, %hf, H⟩ Hk
  iapply (wp_load 𝒱₀ (c : Thread nD τ) none Set.univ (m := oM) (Finset.subset_univ _)) $$ H
  iintro H
  iapply (wp_store 𝒱₀ (c : Thread nD τ) none Set.univ (m := oM) (r := Rect.unit (s := S256x8192) ![0, a] (⟨2, ![256, v]⟩ : Shape).size h)
    (Mk := Finset.univ) (Finset.subset_univ _)) $$ H
  iintro H
  iapply Hk
  iexists _
  isplitr
  rotate_left
  · iexact H
  · ipureintro
    intro i hi
    have ha : a + v ≤ 8192 := h 1
    by_cases hc : a ≤ (i 1).val ∧ (i 1).val < a + v
    · let y : (⟨2, ![256, v]⟩ : Shape).Idx := Shape.pair (d := ![256, v]) (i 0) ⟨(i 1).val - a, by show _ < v; omega⟩
      have ey : (Rect.unit (s := S256x8192) ![0, a] (⟨2, ![256, v]⟩ : Shape).size h).emb y = i := by
        funext b; apply Fin.ext
        fin_cases b
        · show 0 + 1 * (i 0).val = (i 0).val; omega
        · show a + 1 * ((i 1).val - a) = (i 1).val; omega
      refine (congrArg _ ey.symm).trans ((View.write_emb_of_mem (v := (oM.access (Rect.unit (s := S256x8192) ![0, a] (⟨2, ![256, v]⟩ : Shape).size h))) f _ (Finset.mem_univ y)).trans ?_)
      refine entry_eq t _ _ rfl ?_
      show (a + ((i 1).val - a)) % 8192 = (i 1).val
      have := (i 1).isLt
      have h8 : (i 1).val < 8192 := (i 1).isLt
      omega
    · refine (View.write_of_not_mem (v := (oM.access (Rect.unit (s := S256x8192) ![0, a] (⟨2, ![256, v]⟩ : Shape).size h))) f _ _ ?_).trans (hf i ?_)
      · intro hm'
        obtain ⟨y, -, e⟩ := Finset.mem_map.mp hm'
        apply hc
        have e1 : a + 1 * (y 1).val = (i 1).val := congrArg (fun z : S256x8192.Idx => (z 1).val) e
        have hy : (y 1).val < v := (y 1).isLt
        omega
      · obtain ⟨p, hp, h12⟩ := hi
        rcases List.mem_cons.mp hp with rfl | hp
        · exact absurd h12 hc
        · exact ⟨p, hp, h12⟩

/-- Once every column is listed, the buffer holds the target. -/
theorem oHas_full {t : Vec F S256x8192 .f32} {D : List (ℕ × ℕ)} (hD : ∀ j < 8192, Cov D j) : oHas c t D ⊢ oPts c t := by
  unfold oHas
  iintro ⟨%f, %hf, H⟩
  have e : f = t := funext fun i => hf i (hD _ (i 1).isLt)
  rw [e]; iexact H

/-- The whole result is read, read again in vain and written anew. -/
theorem run_put_all {f p : Vec F S256x8192 .f32} {h} {hl} {hx} {hm} {α : Type} {Q : α → sProp 𝕄}
    {k : PUnit → Prog (TpuEff nD τ sig (Elt F) Λ₀ .tc) α} :
    oPts c f ⊢ iprop((oPts c p -∗ run c (k ⟨⟩) Q)
      -∗ run c (.op (.load oM (Rect.unit (s := S256x8192) ![0, 0] S256x8192.size h).toLoadRect hl) fun _ =>
          .op (.store oM (Rect.unit (s := S256x8192) ![0, 0] S256x8192.size h) p Finset.univ hx hm) k) Q) := by
  unfold oPts
  iintro H Hk
  iapply (wp_load 𝒱₀ (c : Thread nD τ) none Set.univ (m := oM) (Finset.subset_univ _)) $$ H
  iintro H
  iapply (wp_store 𝒱₀ (c : Thread nD τ) none Set.univ (m := oM) (r := Rect.unit (s := S256x8192) ![0, 0] S256x8192.size h)
    (Mk := Finset.univ) (Finset.subset_univ _)) $$ H
  iintro H
  rw [show (oM.access (Rect.unit (s := S256x8192) ![0, 0] S256x8192.size h)).write (Elt F) f p Finset.univ = p from
    Memref.write_access_unit_zero_univ (Elt F) cc0_stg2_0 zero_off _ f p]
  iapply Hk; iexact H

/-- A chunk of the send buffer is written, after a read in vain: it holds the chunk of `t`. -/
theorem run_put_s (j : Fin 6) {t : HBuf F} {v o : ℕ} (ho : off j = o) (hv : wd j = v) {h} {hl} {hx} {hm}
    {p : Vec F (⟨2, ![256, v]⟩ : Shape) .bf16} (hp : p = cut o v t) {α : Type} {Q : α → sProp 𝕄}
    {k : PUnit → Prog (TpuEff nD τ sig (Elt F) Λ₀ .tc) α} :
    iprop(∃ f : HBuf F, sPts c j f) ⊢ iprop((sPts c j t -∗ run c (k ⟨⟩) Q)
      -∗ run c (.op (.load sM (Rect.unit (s := S256x2048) ![0, o] (⟨2, ![256, v]⟩ : Shape).size h).toLoadRect hl) fun _ =>
          .op (.store sM (Rect.unit (s := S256x2048) ![0, o] (⟨2, ![256, v]⟩ : Shape).size h) p Finset.univ hx hm) k) Q) := by
  subst hp
  unfold sPts
  iintro ⟨%f, H⟩ Hk
  iapply (wp_load 𝒱₀ (c : Thread nD τ) none Set.univ (m := sM) (by
    rw [← rk_set j ho hv h]
    intro i hi
    obtain ⟨i', hi', e⟩ := Finset.mem_map.mp hi
    rw [← e]; exact hi')) $$ H
  iintro H
  iapply (wp_store 𝒱₀ (c : Thread nD τ) none Set.univ (m := sM) (r := Rect.unit (s := S256x2048) ![0, o] (⟨2, ![256, v]⟩ : Shape).size h)
    (Mk := Finset.univ) (S := cols j) (by
      rw [← rk_set j ho hv h, ← View.set_slice_whole cc0_scratch1]; exact View.setOn_subset_set _ _)) $$ H
  iintro H
  iapply Hk
  rw [show (((c : Thread nD τ).loc cc0_scratch1) ↦[cols j]{fullShare} t : sProp 𝕄)
    = (((c : Thread nD τ).loc cc0_scratch1) ↦[cols j]{fullShare}
      ((sM.access (Rect.unit (s := S256x2048) ![0, o] (⟨2, ![256, v]⟩ : Shape).size h)).write (Elt F) f (cut o v t) Finset.univ)) from
    pointsTo_congr fun i hi => by
      rw [← rk_set j ho hv h, ← Rect.map_emb_univ, Finset.mem_map] at hi
      obtain ⟨y, -, rfl⟩ := hi
      refine Eq.trans ?_ (View.write_emb_of_mem (v := (sM.access (Rect.unit (s := S256x2048) ![0, o] (⟨2, ![256, v]⟩ : Shape).size h))) f _ (Finset.mem_univ y)).symm
      have hy : (y 1).val < v := (y 1).isLt
      have ha : o + v ≤ 2048 := h 1
      refine entry_eq t _ _ ?_ ?_
      · show 0 + 1 * (y 0).val = (y 0).val; omega
      · show o + 1 * (y 1).val = (o + (y 1).val) % 2048; omega]
  iexact H

end Cert.SoftmaxProof

end
-- ==== Proof.Pieces.lean ====
/-
The offsets, the semaphores and the stored values of the kernel's operations in plain form.
-/
module

public import proofs.«01_k».proof.Proof.Access
public import Idealize.ShloMosaic.Lib.Pipeline.Value

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The column at which each piece lies -/

/-- The column in the device's own half-matrix of the piece that starts at column `o` of the part it sends. -/
def sCol (c : Dev nD) (o : ℕ) : ℕ := 2048 * (c.val / 2) + o
/-- The column in the device's own half-matrix of the piece that starts at column `o` of the part it doesn't send. -/
def kCol (c : Dev nD) (o : ℕ) : ℕ := 2048 * (1 - c.val / 2) + o
/-- The column in the result of the piece that starts at column `o` of the part that `py c` sends. -/
def yCol (c : Dev nD) (o : ℕ) : ℕ := 4096 * (1 - c.val % 2) + 2048 * (c.val / 2) + o
/-- The column in the result of the piece that starts at column `o` of the part that `px c` forwards. -/
def xCol (c : Dev nD) (o : ℕ) : ℕ := 4096 * (1 - c.val % 2) + 2048 * (1 - c.val / 2) + o

omit [FloatOps F] in
theorem at_wS0 (c : Dev nD) : k0_off1 c 0#32 = ![0, sCol c 0] :=
  (k0_off1_eq c ⟨0, by decide⟩).trans (congrArg (fun n => (![0, n] : Fin 2 → ℕ)) (by
    have h : c.val < 4 := c.isLt
    simp only [sCol] <;> omega))

omit [FloatOps F] in
theorem at_lS0 (c : Dev nD) : k0_off2 c 0#32 = ![0, sCol c 0] :=
  (k0_off2_eq c ⟨0, by decide⟩).trans (congrArg (fun n => (![0, n] : Fin 2 → ℕ)) (by
    have h : c.val < 4 := c.isLt
    simp only [sCol] <;> omega))

omit [FloatOps F] in
theorem at_wK0 (c : Dev nD) : k0_off7 c 0#32 = ![0, kCol c 0] :=
  (k0_off7_eq c ⟨0, by decide⟩).trans (congrArg (fun n => (![0, n] : Fin 2 → ℕ)) (by
    have h : c.val < 4 := c.isLt
    simp only [kCol] <;> omega))

omit [FloatOps F] in
theorem at_lK0 (c : Dev nD) : k0_off8 c 0#32 = ![0, kCol c 0] :=
  (k0_off8_eq c ⟨0, by decide⟩).trans (congrArg (fun n => (![0, n] : Fin 2 → ℕ)) (by
    have h : c.val < 4 := c.isLt
    simp only [kCol] <;> omega))

omit [FloatOps F] in
theorem at_oY0 (c : Dev nD) : k0_off9 c 0#32 = ![0, yCol c 0] :=
  (k0_off9_eq c ⟨0, by decide⟩).trans (congrArg (fun n => (![0, n] : Fin 2 → ℕ)) (by
    have h : c.val < 4 := c.isLt
    simp only [yCol] <;> omega))

omit [FloatOps F] in
theorem at_oX0 (c : Dev nD) : k0_off16 c 0#32 = ![0, xCol c 0] :=
  (k0_off16_eq c ⟨0, by decide⟩).trans (congrArg (fun n => (![0, n] : Fin 2 → ℕ)) (by
    have h : c.val < 4 := c.isLt
    simp only [xCol] <;> omega))

omit [FloatOps F] in
theorem at_wS1 (c : Dev nD) : k0_off3 c 128#32 = ![0, sCol c 128] :=
  (k0_off3_eq c ⟨0, by decide⟩).trans (congrArg (fun n => (![0, n] : Fin 2 → ℕ)) (by
    have h : c.val < 4 := c.isLt
    simp only [sCol] <;> omega))

omit [FloatOps F] in
theorem at_lS1 (c : Dev nD) : k0_off4 c 128#32 = ![0, sCol c 128] :=
  (k0_off4_eq c ⟨0, by decide⟩).trans (congrArg (fun n => (![0, n] : Fin 2 → ℕ)) (by
    have h : c.val < 4 := c.isLt
    simp only [sCol] <;> omega))

omit [FloatOps F] in
theorem at_wK1 (c : Dev nD) : k0_off10 c 128#32 = ![0, kCol c 128] :=
  (k0_off10_eq c ⟨0, by decide⟩).trans (congrArg (fun n => (![0, n] : Fin 2 → ℕ)) (by
    have h : c.val < 4 := c.isLt
    simp only [kCol] <;> omega))

omit [FloatOps F] in
theorem at_lK1 (c : Dev nD) : k0_off11 c 128#32 = ![0, kCol c 128] :=
  (k0_off11_eq c ⟨0, by decide⟩).trans (congrArg (fun n => (![0, n] : Fin 2 → ℕ)) (by
    have h : c.val < 4 := c.isLt
    simp only [kCol] <;> omega))

omit [FloatOps F] in
theorem at_oY1 (c : Dev nD) : k0_off12 c 128#32 = ![0, yCol c 128] :=
  (k0_off12_eq c ⟨0, by decide⟩).trans (congrArg (fun n => (![0, n] : Fin 2 → ℕ)) (by
    have h : c.val < 4 := c.isLt
    simp only [yCol] <;> omega))

omit [FloatOps F] in
theorem at_oX1 (c : Dev nD) : k0_off17 c 128#32 = ![0, xCol c 128] :=
  (k0_off17_eq c ⟨0, by decide⟩).trans (congrArg (fun n => (![0, n] : Fin 2 → ℕ)) (by
    have h : c.val < 4 := c.isLt
    simp only [xCol] <;> omega))

omit [FloatOps F] in
theorem at_wS2 (c : Dev nD) : k0_off5 c 512#32 = ![0, sCol c 512] :=
  (k0_off5_eq c ⟨0, by decide⟩).trans (congrArg (fun n => (![0, n] : Fin 2 → ℕ)) (by
    have h : c.val < 4 := c.isLt
    simp only [sCol] <;> omega))

omit [FloatOps F] in
theorem at_lS2 (c : Dev nD) : k0_off6 c 512#32 = ![0, sCol c 512] :=
  (k0_off6_eq c ⟨0, by decide⟩).trans (congrArg (fun n => (![0, n] : Fin 2 → ℕ)) (by
    have h : c.val < 4 := c.isLt
    simp only [sCol] <;> omega))

omit [FloatOps F] in
theorem at_wK2 (c : Dev nD) : k0_off13 c 512#32 = ![0, kCol c 512] :=
  (k0_off13_eq c ⟨0, by decide⟩).trans (congrArg (fun n => (![0, n] : Fin 2 → ℕ)) (by
    have h : c.val < 4 := c.isLt
    simp only [kCol] <;> omega))

omit [FloatOps F] in
theorem at_lK2 (c : Dev nD) : k0_off14 c 512#32 = ![0, kCol c 512] :=
  (k0_off14_eq c ⟨0, by decide⟩).trans (congrArg (fun n => (![0, n] : Fin 2 → ℕ)) (by
    have h : c.val < 4 := c.isLt
    simp only [kCol] <;> omega))

omit [FloatOps F] in
theorem at_oY2 (c : Dev nD) : k0_off15 c 512#32 = ![0, yCol c 512] :=
  (k0_off15_eq c ⟨0, by decide⟩).trans (congrArg (fun n => (![0, n] : Fin 2 → ℕ)) (by
    have h : c.val < 4 := c.isLt
    simp only [yCol] <;> omega))

omit [FloatOps F] in
theorem at_oX2 (c : Dev nD) : k0_off18 c 512#32 = ![0, xCol c 512] :=
  (k0_off18_eq c ⟨0, by decide⟩).trans (congrArg (fun n => (![0, n] : Fin 2 → ℕ)) (by
    have h : c.val < 4 := c.isLt
    simp only [xCol] <;> omega))

omit [FloatOps F] in
theorem at_wS3 (c : Dev nD) : k0_off5 c 1024#32 = ![0, sCol c 1024] :=
  (k0_off5_eq c ⟨1, by decide⟩).trans (congrArg (fun n => (![0, n] : Fin 2 → ℕ)) (by
    have h : c.val < 4 := c.isLt
    simp only [sCol] <;> omega))

omit [FloatOps F] in
theorem at_lS3 (c : Dev nD) : k0_off6 c 1024#32 = ![0, sCol c 1024] :=
  (k0_off6_eq c ⟨1, by decide⟩).trans (congrArg (fun n => (![0, n] : Fin 2 → ℕ)) (by
    have h : c.val < 4 := c.isLt
    simp only [sCol] <;> omega))

omit [FloatOps F] in
theorem at_wK3 (c : Dev nD) : k0_off13 c 1024#32 = ![0, kCol c 1024] :=
  (k0_off13_eq c ⟨1, by decide⟩).trans (congrArg (fun n => (![0, n] : Fin 2 → ℕ)) (by
    have h : c.val < 4 := c.isLt
    simp only [kCol] <;> omega))

omit [FloatOps F] in
theorem at_lK3 (c : Dev nD) : k0_off14 c 1024#32 = ![0, kCol c 1024] :=
  (k0_off14_eq c ⟨1, by decide⟩).trans (congrArg (fun n => (![0, n] : Fin 2 → ℕ)) (by
    have h : c.val < 4 := c.isLt
    simp only [kCol] <;> omega))

omit [FloatOps F] in
theorem at_oY3 (c : Dev nD) : k0_off15 c 1024#32 = ![0, yCol c 1024] :=
  (k0_off15_eq c ⟨1, by decide⟩).trans (congrArg (fun n => (![0, n] : Fin 2 → ℕ)) (by
    have h : c.val < 4 := c.isLt
    simp only [yCol] <;> omega))

omit [FloatOps F] in
theorem at_oX3 (c : Dev nD) : k0_off18 c 1024#32 = ![0, xCol c 1024] :=
  (k0_off18_eq c ⟨1, by decide⟩).trans (congrArg (fun n => (![0, n] : Fin 2 → ℕ)) (by
    have h : c.val < 4 := c.isLt
    simp only [xCol] <;> omega))

omit [FloatOps F] in
theorem at_wS4 (c : Dev nD) : k0_off3 c 1536#32 = ![0, sCol c 1536] :=
  (k0_off3_eq c ⟨1, by decide⟩).trans (congrArg (fun n => (![0, n] : Fin 2 → ℕ)) (by
    have h : c.val < 4 := c.isLt
    simp only [sCol] <;> omega))

omit [FloatOps F] in
theorem at_lS4 (c : Dev nD) : k0_off4 c 1536#32 = ![0, sCol c 1536] :=
  (k0_off4_eq c ⟨1, by decide⟩).trans (congrArg (fun n => (![0, n] : Fin 2 → ℕ)) (by
    have h : c.val < 4 := c.isLt
    simp only [sCol] <;> omega))

omit [FloatOps F] in
theorem at_wK4 (c : Dev nD) : k0_off10 c 1536#32 = ![0, kCol c 1536] :=
  (k0_off10_eq c ⟨1, by decide⟩).trans (congrArg (fun n => (![0, n] : Fin 2 → ℕ)) (by
    have h : c.val < 4 := c.isLt
    simp only [kCol] <;> omega))

omit [FloatOps F] in
theorem at_lK4 (c : Dev nD) : k0_off11 c 1536#32 = ![0, kCol c 1536] :=
  (k0_off11_eq c ⟨1, by decide⟩).trans (congrArg (fun n => (![0, n] : Fin 2 → ℕ)) (by
    have h : c.val < 4 := c.isLt
    simp only [kCol] <;> omega))

omit [FloatOps F] in
theorem at_oY4 (c : Dev nD) : k0_off12 c 1536#32 = ![0, yCol c 1536] :=
  (k0_off12_eq c ⟨1, by decide⟩).trans (congrArg (fun n => (![0, n] : Fin 2 → ℕ)) (by
    have h : c.val < 4 := c.isLt
    simp only [yCol] <;> omega))

omit [FloatOps F] in
theorem at_oX4 (c : Dev nD) : k0_off17 c 1536#32 = ![0, xCol c 1536] :=
  (k0_off17_eq c ⟨1, by decide⟩).trans (congrArg (fun n => (![0, n] : Fin 2 → ℕ)) (by
    have h : c.val < 4 := c.isLt
    simp only [xCol] <;> omega))

omit [FloatOps F] in
theorem at_wS5 (c : Dev nD) : k0_off1 c 1920#32 = ![0, sCol c 1920] :=
  (k0_off1_eq c ⟨1, by decide⟩).trans (congrArg (fun n => (![0, n] : Fin 2 → ℕ)) (by
    have h : c.val < 4 := c.isLt
    simp only [sCol] <;> omega))

omit [FloatOps F] in
theorem at_lS5 (c : Dev nD) : k0_off2 c 1920#32 = ![0, sCol c 1920] :=
  (k0_off2_eq c ⟨1, by decide⟩).trans (congrArg (fun n => (![0, n] : Fin 2 → ℕ)) (by
    have h : c.val < 4 := c.isLt
    simp only [sCol] <;> omega))

omit [FloatOps F] in
theorem at_wK5 (c : Dev nD) : k0_off7 c 1920#32 = ![0, kCol c 1920] :=
  (k0_off7_eq c ⟨1, by decide⟩).trans (congrArg (fun n => (![0, n] : Fin 2 → ℕ)) (by
    have h : c.val < 4 := c.isLt
    simp only [kCol] <;> omega))

omit [FloatOps F] in
theorem at_lK5 (c : Dev nD) : k0_off8 c 1920#32 = ![0, kCol c 1920] :=
  (k0_off8_eq c ⟨1, by decide⟩).trans (congrArg (fun n => (![0, n] : Fin 2 → ℕ)) (by
    have h : c.val < 4 := c.isLt
    simp only [kCol] <;> omega))

omit [FloatOps F] in
theorem at_oY5 (c : Dev nD) : k0_off9 c 1920#32 = ![0, yCol c 1920] :=
  (k0_off9_eq c ⟨1, by decide⟩).trans (congrArg (fun n => (![0, n] : Fin 2 → ℕ)) (by
    have h : c.val < 4 := c.isLt
    simp only [yCol] <;> omega))

omit [FloatOps F] in
theorem at_oX5 (c : Dev nD) : k0_off16 c 1920#32 = ![0, xCol c 1920] :=
  (k0_off16_eq c ⟨1, by decide⟩).trans (congrArg (fun n => (![0, n] : Fin 2 → ℕ)) (by
    have h : c.val < 4 := c.isLt
    simp only [xCol] <;> omega))

/-! ## The semaphores -/

omit [FloatOps F] in
theorem sem_0_0 : (((cc0_scratch4 : DmaSems sig S6).slice (Rect.unit (s := S6) ![0] S1.size inb_S6_S1_0)).squeeze S_ squeezes_S1_S_).sem = dq 0 0 := rfl

omit [FloatOps F] in
theorem sem_0_1 : (((cc0_scratch4 : DmaSems sig S6).slice (Rect.unit (s := S6) ![1] S1.size inb_S6_S1_1)).squeeze S_ squeezes_S1_S_).sem = dq 0 1 := rfl

omit [FloatOps F] in
theorem sem_0_2 : (((cc0_scratch4 : DmaSems sig S6).slice (Rect.unit (s := S6) ![2] S1.size inb_S6_S1_2)).squeeze S_ squeezes_S1_S_).sem = dq 0 2 := rfl

omit [FloatOps F] in
theorem sem_0_3 : (((cc0_scratch4 : DmaSems sig S6).slice (Rect.unit (s := S6) ![3] S1.size inb_S6_S1_3)).squeeze S_ squeezes_S1_S_).sem = dq 0 3 := rfl

omit [FloatOps F] in
theorem sem_0_4 : (((cc0_scratch4 : DmaSems sig S6).slice (Rect.unit (s := S6) ![4] S1.size inb_S6_S1_4)).squeeze S_ squeezes_S1_S_).sem = dq 0 4 := rfl

omit [FloatOps F] in
theorem sem_0_5 : (((cc0_scratch4 : DmaSems sig S6).slice (Rect.unit (s := S6) ![5] S1.size inb_S6_S1_5)).squeeze S_ squeezes_S1_S_).sem = dq 0 5 := rfl

omit [FloatOps F] in
theorem sem_1_0 : (((cc0_scratch5 : DmaSems sig S6).slice (Rect.unit (s := S6) ![0] S1.size inb_S6_S1_0)).squeeze S_ squeezes_S1_S_).sem = dq 1 0 := rfl

omit [FloatOps F] in
theorem sem_1_1 : (((cc0_scratch5 : DmaSems sig S6).slice (Rect.unit (s := S6) ![1] S1.size inb_S6_S1_1)).squeeze S_ squeezes_S1_S_).sem = dq 1 1 := rfl

omit [FloatOps F] in
theorem sem_1_2 : (((cc0_scratch5 : DmaSems sig S6).slice (Rect.unit (s := S6) ![2] S1.size inb_S6_S1_2)).squeeze S_ squeezes_S1_S_).sem = dq 1 2 := rfl

omit [FloatOps F] in
theorem sem_1_3 : (((cc0_scratch5 : DmaSems sig S6).slice (Rect.unit (s := S6) ![3] S1.size inb_S6_S1_3)).squeeze S_ squeezes_S1_S_).sem = dq 1 3 := rfl

omit [FloatOps F] in
theorem sem_1_4 : (((cc0_scratch5 : DmaSems sig S6).slice (Rect.unit (s := S6) ![4] S1.size inb_S6_S1_4)).squeeze S_ squeezes_S1_S_).sem = dq 1 4 := rfl

omit [FloatOps F] in
theorem sem_1_5 : (((cc0_scratch5 : DmaSems sig S6).slice (Rect.unit (s := S6) ![5] S1.size inb_S6_S1_5)).squeeze S_ squeezes_S1_S_).sem = dq 1 5 := rfl

omit [FloatOps F] in
theorem sem_2_0 : (((cc0_scratch6 : DmaSems sig S6).slice (Rect.unit (s := S6) ![0] S1.size inb_S6_S1_0)).squeeze S_ squeezes_S1_S_).sem = dq 2 0 := rfl

omit [FloatOps F] in
theorem sem_2_1 : (((cc0_scratch6 : DmaSems sig S6).slice (Rect.unit (s := S6) ![1] S1.size inb_S6_S1_1)).squeeze S_ squeezes_S1_S_).sem = dq 2 1 := rfl

omit [FloatOps F] in
theorem sem_2_2 : (((cc0_scratch6 : DmaSems sig S6).slice (Rect.unit (s := S6) ![2] S1.size inb_S6_S1_2)).squeeze S_ squeezes_S1_S_).sem = dq 2 2 := rfl

omit [FloatOps F] in
theorem sem_2_3 : (((cc0_scratch6 : DmaSems sig S6).slice (Rect.unit (s := S6) ![3] S1.size inb_S6_S1_3)).squeeze S_ squeezes_S1_S_).sem = dq 2 3 := rfl

omit [FloatOps F] in
theorem sem_2_4 : (((cc0_scratch6 : DmaSems sig S6).slice (Rect.unit (s := S6) ![4] S1.size inb_S6_S1_4)).squeeze S_ squeezes_S1_S_).sem = dq 2 4 := rfl

omit [FloatOps F] in
theorem sem_2_5 : (((cc0_scratch6 : DmaSems sig S6).slice (Rect.unit (s := S6) ![5] S1.size inb_S6_S1_5)).squeeze S_ squeezes_S1_S_).sem = dq 2 5 := rfl

omit [FloatOps F] in
theorem sem_3_0 : (((cc0_scratch7 : DmaSems sig S6).slice (Rect.unit (s := S6) ![0] S1.size inb_S6_S1_0)).squeeze S_ squeezes_S1_S_).sem = dq 3 0 := rfl

omit [FloatOps F] in
theorem sem_3_1 : (((cc0_scratch7 : DmaSems sig S6).slice (Rect.unit (s := S6) ![1] S1.size inb_S6_S1_1)).squeeze S_ squeezes_S1_S_).sem = dq 3 1 := rfl

omit [FloatOps F] in
theorem sem_3_2 : (((cc0_scratch7 : DmaSems sig S6).slice (Rect.unit (s := S6) ![2] S1.size inb_S6_S1_2)).squeeze S_ squeezes_S1_S_).sem = dq 3 2 := rfl

omit [FloatOps F] in
theorem sem_3_3 : (((cc0_scratch7 : DmaSems sig S6).slice (Rect.unit (s := S6) ![3] S1.size inb_S6_S1_3)).squeeze S_ squeezes_S1_S_).sem = dq 3 3 := rfl

omit [FloatOps F] in
theorem sem_3_4 : (((cc0_scratch7 : DmaSems sig S6).slice (Rect.unit (s := S6) ![4] S1.size inb_S6_S1_4)).squeeze S_ squeezes_S1_S_).sem = dq 3 4 := rfl

omit [FloatOps F] in
theorem sem_3_5 : (((cc0_scratch7 : DmaSems sig S6).slice (Rect.unit (s := S6) ![5] S1.size inb_S6_S1_5)).squeeze S_ squeezes_S1_S_).sem = dq 3 5 := rfl

/-! ## What each chunk counts -/

omit [FloatOps F] in
/-- A transfer counts by its shape, whichever buffer it lands in. -/
theorem credit_free {s : Shape} (v v' : View sig .tc .vmem s .bf16) : v.dmaCredit = v'.dmaCredit := rfl

omit [FloatOps F] in
theorem Nk_0 : Nk 0 = (sM.slice (rk 0 128 inb_S256x2048_S256x128_0_0) (fun _ => rfl)).view.dmaCredit := by
  unfold Nk; rfl

omit [FloatOps F] in
theorem crd_s0 {h} : (sM.slice (rk 0 128 h) (fun _ => rfl)).view.dmaCredit = Nk 0 :=
  (credit_free (sM.slice (rk 0 128 h) (fun _ => rfl)).view (sM.slice (rk 0 128 inb_S256x2048_S256x128_0_0) (fun _ => rfl)).view).trans Nk_0.symm

omit [FloatOps F] in
theorem crd_ry0 {h} : (ryM.slice (rk 0 128 h) (fun _ => rfl)).view.dmaCredit = Nk 0 :=
  (credit_free (ryM.slice (rk 0 128 h) (fun _ => rfl)).view (sM.slice (rk 0 128 inb_S256x2048_S256x128_0_0) (fun _ => rfl)).view).trans Nk_0.symm

omit [FloatOps F] in
theorem crd_rx0 {h} : (rxM.slice (rk 0 128 h) (fun _ => rfl)).view.dmaCredit = Nk 0 :=
  (credit_free (rxM.slice (rk 0 128 h) (fun _ => rfl)).view (sM.slice (rk 0 128 inb_S256x2048_S256x128_0_0) (fun _ => rfl)).view).trans Nk_0.symm

omit [FloatOps F] in
theorem Nk_1 : Nk 1 = (sM.slice (rk 128 384 inb_S256x2048_S256x384_0_128) (fun _ => rfl)).view.dmaCredit := by
  unfold Nk; rfl

omit [FloatOps F] in
theorem crd_s1 {h} : (sM.slice (rk 128 384 h) (fun _ => rfl)).view.dmaCredit = Nk 1 :=
  (credit_free (sM.slice (rk 128 384 h) (fun _ => rfl)).view (sM.slice (rk 128 384 inb_S256x2048_S256x384_0_128) (fun _ => rfl)).view).trans Nk_1.symm

omit [FloatOps F] in
theorem crd_ry1 {h} : (ryM.slice (rk 128 384 h) (fun _ => rfl)).view.dmaCredit = Nk 1 :=
  (credit_free (ryM.slice (rk 128 384 h) (fun _ => rfl)).view (sM.slice (rk 128 384 inb_S256x2048_S256x384_0_128) (fun _ => rfl)).view).trans Nk_1.symm

omit [FloatOps F] in
theorem crd_rx1 {h} : (rxM.slice (rk 128 384 h) (fun _ => rfl)).view.dmaCredit = Nk 1 :=
  (credit_free (rxM.slice (rk 128 384 h) (fun _ => rfl)).view (sM.slice (rk 128 384 inb_S256x2048_S256x384_0_128) (fun _ => rfl)).view).trans Nk_1.symm

omit [FloatOps F] in
theorem Nk_2 : Nk 2 = (sM.slice (rk 512 512 inb_S256x2048_S256x512_0_512) (fun _ => rfl)).view.dmaCredit := by
  unfold Nk; rfl

omit [FloatOps F] in
theorem crd_s2 {h} : (sM.slice (rk 512 512 h) (fun _ => rfl)).view.dmaCredit = Nk 2 :=
  (credit_free (sM.slice (rk 512 512 h) (fun _ => rfl)).view (sM.slice (rk 512 512 inb_S256x2048_S256x512_0_512) (fun _ => rfl)).view).trans Nk_2.symm

omit [FloatOps F] in
theorem crd_ry2 {h} : (ryM.slice (rk 512 512 h) (fun _ => rfl)).view.dmaCredit = Nk 2 :=
  (credit_free (ryM.slice (rk 512 512 h) (fun _ => rfl)).view (sM.slice (rk 512 512 inb_S256x2048_S256x512_0_512) (fun _ => rfl)).view).trans Nk_2.symm

omit [FloatOps F] in
theorem crd_rx2 {h} : (rxM.slice (rk 512 512 h) (fun _ => rfl)).view.dmaCredit = Nk 2 :=
  (credit_free (rxM.slice (rk 512 512 h) (fun _ => rfl)).view (sM.slice (rk 512 512 inb_S256x2048_S256x512_0_512) (fun _ => rfl)).view).trans Nk_2.symm

omit [FloatOps F] in
theorem Nk_3 : Nk 3 = (sM.slice (rk 1024 512 inb_S256x2048_S256x512_0_1024) (fun _ => rfl)).view.dmaCredit := by
  unfold Nk; rfl

omit [FloatOps F] in
theorem crd_s3 {h} : (sM.slice (rk 1024 512 h) (fun _ => rfl)).view.dmaCredit = Nk 3 :=
  (credit_free (sM.slice (rk 1024 512 h) (fun _ => rfl)).view (sM.slice (rk 1024 512 inb_S256x2048_S256x512_0_1024) (fun _ => rfl)).view).trans Nk_3.symm

omit [FloatOps F] in
theorem crd_ry3 {h} : (ryM.slice (rk 1024 512 h) (fun _ => rfl)).view.dmaCredit = Nk 3 :=
  (credit_free (ryM.slice (rk 1024 512 h) (fun _ => rfl)).view (sM.slice (rk 1024 512 inb_S256x2048_S256x512_0_1024) (fun _ => rfl)).view).trans Nk_3.symm

omit [FloatOps F] in
theorem crd_rx3 {h} : (rxM.slice (rk 1024 512 h) (fun _ => rfl)).view.dmaCredit = Nk 3 :=
  (credit_free (rxM.slice (rk 1024 512 h) (fun _ => rfl)).view (sM.slice (rk 1024 512 inb_S256x2048_S256x512_0_1024) (fun _ => rfl)).view).trans Nk_3.symm

omit [FloatOps F] in
theorem Nk_4 : Nk 4 = (sM.slice (rk 1536 384 inb_S256x2048_S256x384_0_1536) (fun _ => rfl)).view.dmaCredit := by
  unfold Nk; rfl

omit [FloatOps F] in
theorem crd_s4 {h} : (sM.slice (rk 1536 384 h) (fun _ => rfl)).view.dmaCredit = Nk 4 :=
  (credit_free (sM.slice (rk 1536 384 h) (fun _ => rfl)).view (sM.slice (rk 1536 384 inb_S256x2048_S256x384_0_1536) (fun _ => rfl)).view).trans Nk_4.symm

omit [FloatOps F] in
theorem crd_ry4 {h} : (ryM.slice (rk 1536 384 h) (fun _ => rfl)).view.dmaCredit = Nk 4 :=
  (credit_free (ryM.slice (rk 1536 384 h) (fun _ => rfl)).view (sM.slice (rk 1536 384 inb_S256x2048_S256x384_0_1536) (fun _ => rfl)).view).trans Nk_4.symm

omit [FloatOps F] in
theorem crd_rx4 {h} : (rxM.slice (rk 1536 384 h) (fun _ => rfl)).view.dmaCredit = Nk 4 :=
  (credit_free (rxM.slice (rk 1536 384 h) (fun _ => rfl)).view (sM.slice (rk 1536 384 inb_S256x2048_S256x384_0_1536) (fun _ => rfl)).view).trans Nk_4.symm

omit [FloatOps F] in
theorem Nk_5 : Nk 5 = (sM.slice (rk 1920 128 inb_S256x2048_S256x128_0_1920) (fun _ => rfl)).view.dmaCredit := by
  unfold Nk; rfl

omit [FloatOps F] in
theorem crd_s5 {h} : (sM.slice (rk 1920 128 h) (fun _ => rfl)).view.dmaCredit = Nk 5 :=
  (credit_free (sM.slice (rk 1920 128 h) (fun _ => rfl)).view (sM.slice (rk 1920 128 inb_S256x2048_S256x128_0_1920) (fun _ => rfl)).view).trans Nk_5.symm

omit [FloatOps F] in
theorem crd_ry5 {h} : (ryM.slice (rk 1920 128 h) (fun _ => rfl)).view.dmaCredit = Nk 5 :=
  (credit_free (ryM.slice (rk 1920 128 h) (fun _ => rfl)).view (sM.slice (rk 1920 128 inb_S256x2048_S256x128_0_1920) (fun _ => rfl)).view).trans Nk_5.symm

omit [FloatOps F] in
theorem crd_rx5 {h} : (rxM.slice (rk 1920 128 h) (fun _ => rfl)).view.dmaCredit = Nk 5 :=
  (credit_free (rxM.slice (rk 1920 128 h) (fun _ => rfl)).view (sM.slice (rk 1920 128 inb_S256x2048_S256x128_0_1920) (fun _ => rfl)).view).trans Nk_5.symm

/-! ## The stored values -/

variable (X : Dev nD → Vec F S256x512 .f32) (W : Dev nD → Vec F S512x4096 .f32) (c : Dev nD)

theorem pay_lS0 : k0_pay4 (k0_pay1 (X c)) (k0_pay2 (cut (sCol c 0) 128 (W c))) (constant S256x128 .f32 0x00000000#32) = cut (sCol c 0) 128 (lgD X W c) := by
  refine Eq.trans ?_ (lg_cut0 (X c) (W c) (c.val / 2) (sCol c 0) (by have h : c.val < 4 := c.isLt; omega) rfl).symm
  simp only [k0_pay1, k0_pay2, k0_pay3, k0_pay4, k0_pay3, shapeCast_self]; rfl

theorem pay_s0 : k0_pay5 (k0_pay1 (X c)) (k0_pay2 (cut (sCol c 0) 128 (W c))) (constant S256x128 .f32 0x00000000#32) = cut 0 128 (sD X W c) := by
  refine Eq.trans ?_ (sD_cut X W c 0 128 (by decide)).symm
  refine Eq.trans ?_ (congrArg (fun z => truncf .bf16 z bitsLt_bf16_f32) (pay_lS0 X W c))
  simp only [k0_pay1, k0_pay2, k0_pay3, k0_pay5, k0_pay4, k0_pay3, shapeCast_self]

theorem pay_lK0 : k0_pay24 (X c) (cut (kCol c 0) 128 (W c)) = cut (kCol c 0) 128 (lgD X W c) := by
  refine Eq.trans ?_ (lg_cut0 (X c) (W c) (1 - c.val / 2) (kCol c 0) (by omega) rfl).symm
  simp only [k0_pay24, shapeCast_self]; rfl

theorem pay_oY0 : k0_pay25 (ryD X W c 0 128) = cut (yCol c 0) 128 (exD X W c) :=
  (exD_ry X W c (yCol c 0) 0 128 (by decide) rfl).symm

theorem pay_oX0 : k0_pay32 (rxD X W c 0 128) = cut (xCol c 0) 128 (exD X W c) :=
  (exD_rx X W c (xCol c 0) 0 128 (by decide) rfl).symm

theorem pay_lS1 : k0_pay7 (X c) (cut (sCol c 128) 384 (W c)) = cut (sCol c 128) 384 (lgD X W c) := by
  refine Eq.trans ?_ (lg_cut1 (X c) (W c) (c.val / 2) (sCol c 128) (by have h : c.val < 4 := c.isLt; omega) rfl).symm
  simp only [k0_pay7, k0_pay6, shapeCast_self]; rfl

theorem pay_s1 : k0_pay8 (X c) (cut (sCol c 128) 384 (W c)) = cut 128 384 (sD X W c) := by
  refine Eq.trans ?_ (sD_cut X W c 128 384 (by decide)).symm
  refine Eq.trans ?_ (congrArg (fun z => truncf .bf16 z bitsLt_bf16_f32) (pay_lS1 X W c))
  simp only [k0_pay8, k0_pay7, k0_pay6, shapeCast_self]

theorem pay_lK1 : k0_pay27 (X c) (cut (kCol c 128) 384 (W c)) = cut (kCol c 128) 384 (lgD X W c) := by
  refine Eq.trans ?_ (lg_cut1 (X c) (W c) (1 - c.val / 2) (kCol c 128) (by omega) rfl).symm
  simp only [k0_pay27, shapeCast_self]; rfl

theorem pay_oY1 : k0_pay28 (ryD X W c 128 384) = cut (yCol c 128) 384 (exD X W c) :=
  (exD_ry X W c (yCol c 128) 128 384 (by decide) rfl).symm

theorem pay_oX1 : k0_pay37 (rxD X W c 128 384) = cut (xCol c 128) 384 (exD X W c) :=
  (exD_rx X W c (xCol c 128) 128 384 (by decide) rfl).symm

theorem pay_lS2 : k0_pay10 (X c) (cut (sCol c 512) 512 (W c)) = cut (sCol c 512) 512 (lgD X W c) := by
  refine Eq.trans ?_ (lg_cut2 (X c) (W c) (c.val / 2) (sCol c 512) (by have h : c.val < 4 := c.isLt; omega) rfl).symm
  simp only [k0_pay10, k0_pay9, shapeCast_self]; rfl

theorem pay_s2 : k0_pay11 (X c) (cut (sCol c 512) 512 (W c)) = cut 512 512 (sD X W c) := by
  refine Eq.trans ?_ (sD_cut X W c 512 512 (by decide)).symm
  refine Eq.trans ?_ (congrArg (fun z => truncf .bf16 z bitsLt_bf16_f32) (pay_lS2 X W c))
  simp only [k0_pay11, k0_pay10, k0_pay9, shapeCast_self]

theorem pay_lK2 : k0_pay30 (X c) (cut (kCol c 512) 512 (W c)) = cut (kCol c 512) 512 (lgD X W c) := by
  refine Eq.trans ?_ (lg_cut2 (X c) (W c) (1 - c.val / 2) (kCol c 512) (by omega) rfl).symm
  simp only [k0_pay30, shapeCast_self]; rfl

theorem pay_oY2 : k0_pay31 (ryD X W c 512 512) = cut (yCol c 512) 512 (exD X W c) :=
  (exD_ry X W c (yCol c 512) 512 512 (by decide) rfl).symm

theorem pay_oX2 : k0_pay42 (rxD X W c 512 512) = cut (xCol c 512) 512 (exD X W c) :=
  (exD_rx X W c (xCol c 512) 512 512 (by decide) rfl).symm

theorem pay_lS3 : k0_pay13 (X c) (cut (sCol c 1024) 512 (W c)) = cut (sCol c 1024) 512 (lgD X W c) := by
  refine Eq.trans ?_ (lg_cut3 (X c) (W c) (c.val / 2) (sCol c 1024) (by have h : c.val < 4 := c.isLt; omega) rfl).symm
  simp only [k0_pay13, k0_pay12, shapeCast_self]; rfl

theorem pay_s3 : k0_pay14 (X c) (cut (sCol c 1024) 512 (W c)) = cut 1024 512 (sD X W c) := by
  refine Eq.trans ?_ (sD_cut X W c 1024 512 (by decide)).symm
  refine Eq.trans ?_ (congrArg (fun z => truncf .bf16 z bitsLt_bf16_f32) (pay_lS3 X W c))
  simp only [k0_pay14, k0_pay13, k0_pay12, shapeCast_self]

theorem pay_lK3 : k0_pay34 (X c) (cut (kCol c 1024) 512 (W c)) = cut (kCol c 1024) 512 (lgD X W c) := by
  refine Eq.trans ?_ (lg_cut3 (X c) (W c) (1 - c.val / 2) (kCol c 1024) (by omega) rfl).symm
  simp only [k0_pay34, shapeCast_self]; rfl

theorem pay_oY3 : k0_pay35 (ryD X W c 1024 512) = cut (yCol c 1024) 512 (exD X W c) :=
  (exD_ry X W c (yCol c 1024) 1024 512 (by decide) rfl).symm

theorem pay_oX3 : k0_pay48 (rxD X W c 1024 512) = cut (xCol c 1024) 512 (exD X W c) :=
  (exD_rx X W c (xCol c 1024) 1024 512 (by decide) rfl).symm

theorem pay_lS4 : k0_pay18 (k0_pay15 (X c)) (k0_pay16 (cut (sCol c 1536) 384 (W c))) (constant S256x384 .f32 0x00000000#32) = cut (sCol c 1536) 384 (lgD X W c) := by
  refine Eq.trans ?_ (lg_cut4 (X c) (W c) (c.val / 2) (sCol c 1536) (by have h : c.val < 4 := c.isLt; omega) rfl).symm
  simp only [k0_pay15, k0_pay16, k0_pay17, k0_pay18, k0_pay17, shapeCast_self]; rfl

theorem pay_s4 : k0_pay19 (k0_pay15 (X c)) (k0_pay16 (cut (sCol c 1536) 384 (W c))) (constant S256x384 .f32 0x00000000#32) = cut 1536 384 (sD X W c) := by
  refine Eq.trans ?_ (sD_cut X W c 1536 384 (by decide)).symm
  refine Eq.trans ?_ (congrArg (fun z => truncf .bf16 z bitsLt_bf16_f32) (pay_lS4 X W c))
  simp only [k0_pay15, k0_pay16, k0_pay17, k0_pay19, k0_pay18, k0_pay17, shapeCast_self]

theorem pay_lK4 : k0_pay39 (X c) (cut (kCol c 1536) 384 (W c)) = cut (kCol c 1536) 384 (lgD X W c) := by
  refine Eq.trans ?_ (lg_cut4 (X c) (W c) (1 - c.val / 2) (kCol c 1536) (by omega) rfl).symm
  simp only [k0_pay39, shapeCast_self]; rfl

theorem pay_oY4 : k0_pay40 (ryD X W c 1536 384) = cut (yCol c 1536) 384 (exD X W c) :=
  (exD_ry X W c (yCol c 1536) 1536 384 (by decide) rfl).symm

theorem pay_oX4 : k0_pay51 (rxD X W c 1536 384) = cut (xCol c 1536) 384 (exD X W c) :=
  (exD_rx X W c (xCol c 1536) 1536 384 (by decide) rfl).symm

theorem pay_lS5 : k0_pay21 (X c) (cut (sCol c 1920) 128 (W c)) = cut (sCol c 1920) 128 (lgD X W c) := by
  refine Eq.trans ?_ (lg_cut5 (X c) (W c) (c.val / 2) (sCol c 1920) (by have h : c.val < 4 := c.isLt; omega) rfl).symm
  simp only [k0_pay21, k0_pay20, shapeCast_self]; rfl

theorem pay_s5 : k0_pay22 (X c) (cut (sCol c 1920) 128 (W c)) = cut 1920 128 (sD X W c) := by
  refine Eq.trans ?_ (sD_cut X W c 1920 128 (by decide)).symm
  refine Eq.trans ?_ (congrArg (fun z => truncf .bf16 z bitsLt_bf16_f32) (pay_lS5 X W c))
  simp only [k0_pay22, k0_pay21, k0_pay20, shapeCast_self]

theorem pay_lK5 : k0_pay45 (k0_pay44 (X c)) (cut (kCol c 1920) 128 (W c)) = cut (kCol c 1920) 128 (lgD X W c) := by
  refine Eq.trans ?_ (lg_cut5 (X c) (W c) (1 - c.val / 2) (kCol c 1920) (by omega) rfl).symm
  simp only [k0_pay44, k0_pay45, shapeCast_self]; rfl

theorem pay_oY5 : k0_pay46 (ryD X W c 1920 128) = cut (yCol c 1920) 128 (exD X W c) :=
  (exD_ry X W c (yCol c 1920) 1920 128 (by decide) rfl).symm

theorem pay_oX5 : k0_pay53 (rxD X W c 1920 128) = cut (xCol c 1920) 128 (exD X W c) :=
  (exD_rx X W c (xCol c 1920) 1920 128 (by decide) rfl).symm

theorem pay_own : k0_pay50 (lgD X W c) = cut (4096 * (c.val % 2)) 4096 (exD X W c) := (exD_own X W c).symm

/-! ## The waits for a transfer, with what each gives back -/

/-- The credit for the arrival on cell `(a, k)`. -/
abbrev cr (a : Fin 4) (k : Fin 6) : sProp 𝕄 := cred (tallyAt (dCell c a k) () (Nk k))
/-- The position of cell `(a, k)` before its round. -/
abbrev ps (a : Fin 4) (k : Fin 6) : sProp 𝕄 := atPos ER (dCell c a k) 0 ∅ 0
/-- Cell `(a, k)` back at zero. -/
abbrev zr (a : Fin 4) (k : Fin 6) : sProp 𝕄 := semVal (dCell c a k) 0

variable (sV : Dev nD → HBuf F) (K : Dev nD × Option (Fin 4 × Fin 6) → ℕ)

/-- A chunk of the first receiving buffer in two halves. -/
theorem split_ry (j : Fin 6) {f : HBuf F} :
    (ryPts c j fullShare f : sProp 𝕄) ⊢ iprop(ryPts c j fullShare.left f ∗ ryPts c j fullShare.right f) := by
  unfold ryPts
  exact (pointsTo_share (PosShare.mem_left_op_right fullShare)).1

/-- And back together. -/
theorem join_ry (j : Fin 6) {f : HBuf F} :
    iprop(ryPts c j fullShare.left f ∗ ryPts c j fullShare.right f) ⊢ (ryPts c j fullShare f : sProp 𝕄) := by
  unfold ryPts
  exact (pointsTo_share (PosShare.mem_left_op_right fullShare)).2

/-- The wait for the chunk that `py c` sends: it comes in two halves, one to be lent to the forward. -/
theorem run_take_ry (j : Fin 6) (n : ℕ) {q : DmaSem sig} (hq : q = dq 1 j)
    {s s' : Shape} {e e' : EltTy} {sp sp' : Space}
    {src : Memref sig .tc sp' s' e'} {dst : Memref sig .tc sp s e} {hsrc : src.view.WordExact} {hdst : dst.view.WordExact}
    (hN : dst.view.dmaCredit = Nk j) {α : Type} {Q : α → sProp 𝕄} {k : PUnit → Prog (TpuEff nD τ sig (Elt F) Λ₀ .tc) α} :
    iprop(recs sV K ∗ ow c (oX c n) ∗ cr c 1 j ∗ ps c 1 j)
      ⊢ iprop(((ow c (oX c n) ∗ zr c 1 j ∗ ryPts c j fullShare.left (sV (py c)) ∗ ryPts c j fullShare.right (sV (py c))) -∗ run c (k ⟨⟩) Q)
          -∗ run c (.op (.waitDma2 q src dst hsrc hdst) k) Q) := by
  iintro ⟨#HR, HO, Hc, Ha⟩ Hk
  iapply (wp_take sV K c 1 j hq (oX c n) (mayWait_ry c j n) hN) $$ [HO Hc Ha]
  · isplitr; · iexact HR
    isplitl [HO]; · iexact HO
    isplitl [Hc]; · iexact Hc
    iexact Ha
  iintro ⟨HO, Hz, Hp⟩
  ihave Hp := (Entails.of_eq (pay_ry sV c j)) $$ Hp
  iapply Hk
  isplitl [HO]; · iexact HO
  isplitl [Hz]; · iexact Hz
  iapply (split_ry c j) $$ Hp

/-- The wait for the chunk that `px c` forwards. -/
theorem run_take_rx (j : Fin 6) (n : ℕ) (hn : j.val + n < 6) {q : DmaSem sig} (hq : q = dq 3 j)
    {s s' : Shape} {e e' : EltTy} {sp sp' : Space}
    {src : Memref sig .tc sp' s' e'} {dst : Memref sig .tc sp s e} {hsrc : src.view.WordExact} {hdst : dst.view.WordExact}
    (hN : dst.view.dmaCredit = Nk j) {α : Type} {Q : α → sProp 𝕄} {k : PUnit → Prog (TpuEff nD τ sig (Elt F) Λ₀ .tc) α} :
    iprop(recs sV K ∗ ow c (oX c n) ∗ cr c 3 j ∗ ps c 3 j)
      ⊢ iprop(((ow c (oX c n) ∗ zr c 3 j ∗ rxPts c j (sV (py (px c)))) -∗ run c (k ⟨⟩) Q)
          -∗ run c (.op (.waitDma2 q src dst hsrc hdst) k) Q) := by
  iintro ⟨#HR, HO, Hc, Ha⟩ Hk
  iapply (wp_take sV K c 3 j hq (oX c n) (mayWait_rx c j n hn) hN) $$ [HO Hc Ha]
  · isplitr; · iexact HR
    isplitl [HO]; · iexact HO
    isplitl [Hc]; · iexact Hc
    iexact Ha
  iintro ⟨HO, Hz, Hp⟩
  ihave Hp := (Entails.of_eq (pay_rx sV c j)) $$ Hp
  iapply Hk
  isplitl [HO]; · iexact HO
  isplitl [Hz]; · iexact Hz
  iexact Hp

/-- The wait for a chunk's sending to be over: the sent buffer's chunk comes back. -/
theorem run_take_sy (j : Fin 6) {q : DmaSem sig} (hq : q = dq 0 j)
    {s s' : Shape} {e e' : EltTy} {sp sp' : Space}
    {src : Memref sig .tc sp' s' e'} {dst : Memref sig .tc sp s e} {hsrc : src.view.WordExact} {hdst : dst.view.WordExact}
    (hN : dst.view.dmaCredit = Nk j) {α : Type} {Q : α → sProp 𝕄} {k : PUnit → Prog (TpuEff nD τ sig (Elt F) Λ₀ .tc) α} :
    iprop(recs sV K ∗ ow c (0) ∗ cr c 0 j ∗ ps c 0 j)
      ⊢ iprop(((ow c (0) ∗ zr c 0 j ∗ sPts c j (sV c)) -∗ run c (k ⟨⟩) Q)
          -∗ run c (.op (.waitDma2 q src dst hsrc hdst) k) Q) := by
  iintro ⟨#HR, HO, Hc, Ha⟩ Hk
  iapply (wp_take sV K c 0 j hq (0) (mayWait_zero c _) hN) $$ [HO Hc Ha]
  · isplitr; · iexact HR
    isplitl [HO]; · iexact HO
    isplitl [Hc]; · iexact Hc
    iexact Ha
  iintro ⟨HO, Hz, Hp⟩
  ihave Hp := (Entails.of_eq (pay_sy sV c j)) $$ Hp
  iapply Hk
  isplitl [HO]; · iexact HO
  isplitl [Hz]; · iexact Hz
  iexact Hp

/-- The wait for a chunk's forwarding to be over: the lent half comes back. -/
theorem run_take_sx (j : Fin 6) {q : DmaSem sig} (hq : q = dq 2 j)
    {s s' : Shape} {e e' : EltTy} {sp sp' : Space}
    {src : Memref sig .tc sp' s' e'} {dst : Memref sig .tc sp s e} {hsrc : src.view.WordExact} {hdst : dst.view.WordExact}
    (hN : dst.view.dmaCredit = Nk j) {α : Type} {Q : α → sProp 𝕄} {k : PUnit → Prog (TpuEff nD τ sig (Elt F) Λ₀ .tc) α} :
    iprop(recs sV K ∗ ow c (0) ∗ cr c 2 j ∗ ps c 2 j)
      ⊢ iprop(((ow c (0) ∗ zr c 2 j ∗ ryPts c j fullShare.left (sV (py c))) -∗ run c (k ⟨⟩) Q)
          -∗ run c (.op (.waitDma2 q src dst hsrc hdst) k) Q) := by
  iintro ⟨#HR, HO, Hc, Ha⟩ Hk
  iapply (wp_take sV K c 2 j hq (0) (mayWait_zero c _) hN) $$ [HO Hc Ha]
  · isplitr; · iexact HR
    isplitl [HO]; · iexact HO
    isplitl [Hc]; · iexact Hc
    iexact Ha
  iintro ⟨HO, Hz, Hp⟩
  ihave Hp := (Entails.of_eq (pay_sx sV c j)) $$ Hp
  iapply Hk
  isplitl [HO]; · iexact HO
  isplitl [Hz]; · iexact Hz
  iexact Hp

/-- The end of a stretch. -/
theorem run_ret {α : Type} {a : α} {Q : α → sProp 𝕄} : Q a ⊢ run (F := F) c (Prog.ret a) Q := by
  unfold run
  rw [wp_ret]
  iintro H
  imodintro
  iexact H

end Cert.SoftmaxProof

end
-- ==== Proof.PartsSend.lean ====
/-
What each of the first stretches of the kernel takes and leaves: the barrier, the products and the sends.
-/
module

public import proofs.«01_k».proof.Proof.Pieces

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x512 .f32) (W : Dev nD → Vec F S512x4096 .f32) (K : Dev nD × Option (Fin 4 × Fin 6) → ℕ) (c : Dev nD)

/-- The two barrier signals, each with a receiving buffer, and the wait, which gives the neighbours' buffers; then the first reads. -/
theorem run_part1 {Q : _ → sProp 𝕄} :
    iprop(recs (sD X W) K ∗ ow c (O₀ c) ∗ dutyTok ER (barCell (py c)) 0 false ∗ (bigSep Finset.univ fun j : Fin 6 => iprop(∃ f : HBuf F, ryPts c j fullShare f)) ∗ dutyTok ER (barCell (px c)) 0 true ∗ (bigSep Finset.univ fun j : Fin 6 => iprop(∃ f : HBuf F, rxPts c j f)) ∗ cred (tallyAt (barCell c) () 2) ∗ atPos ER (barCell c) 0 ∅ 0 ∗ xPts c (X c) ∗ wPts c (W c))
      ⊢ iprop(((ow c (oY c 6) ∗ semVal (barCell c) 0 ∗ barPay c false ∗ barPay c true ∗ xPts c (X c) ∗ wPts c (W c)) -∗ Q ⟨c, Scalar.remsi (Scalar.divsi (Dev.word c) 2#32) 2#32, Scalar.remsi (Scalar.divsi (Dev.word c) 1#32) 2#32, Scalar.subi 1#32 (Scalar.remsi (Scalar.divsi (Dev.word c) 1#32) 2#32), Scalar.subi 1#32 (Scalar.remsi (Scalar.divsi (Dev.word c) 2#32) 2#32), Scalar.muli (Scalar.remsi (Scalar.divsi (Dev.word c) 2#32) 2#32) 2048#32, Scalar.muli (Scalar.subi 1#32 (Scalar.remsi (Scalar.divsi (Dev.word c) 2#32) 2#32)) 2048#32, Scalar.muli (Scalar.remsi (Scalar.divsi (Dev.word c) 1#32) 2#32) 4096#32, Scalar.muli (Scalar.subi 1#32 (Scalar.remsi (Scalar.divsi (Dev.word c) 1#32) 2#32)) 4096#32, Scalar.addi (Scalar.muli (Scalar.remsi (Scalar.divsi (Dev.word c) 2#32) 2#32) 2048#32) 0#32, k0_pay1 (X c), k0_pay2 (cut (sCol c 0) 128 (W c)), constant S256x128 .f32 0x00000000#32⟩)
        -∗ run c (k0_part1 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [k0_part1_eq_skeleton]; unfold k0_part1_skel
  simp only [semSignalWord, semWaitWord, Prog.lift, Prog.bind_op, Prog.bind_ret, Prog.pure_eq_ret, wp_deviceId]
  iintro ⟨#HR, HO, Htb, Hry, Htc, Hrx, Hcb, Hpb, Hx, Hw⟩ Hk
  iapply (wp_signal_y (sD X W) K c _ (Fin.ext (k0_dev1_eq c))) $$ [HO Htb Hry]
  · isplitr; · iexact HR
    isplitl [HO]; · iexact HO
    isplitl [Htb]; · iexact Htb
    iexact Hry
  iintro HO
  iapply (wp_signal_x (sD X W) K c _ (Fin.ext (k0_dev2_eq c))) $$ [HO Htc Hrx]
  · isplitr; · iexact HR
    isplitl [HO]; · iexact HO
    isplitl [Htc]; · iexact Htc
    iexact Hrx
  iintro HO
  iapply (wp_barrier (sD X W) K c) $$ [HO Hcb Hpb]
  · isplitr; · iexact HR
    isplitl [HO]; · iexact HO
    isplitl [Hcb]; · iexact Hcb
    iexact Hpb
  iintro ⟨HO, Hzb, Hb1, Hb2⟩
  iapply (run_read_x c) $$ Hx
  iintro Hx
  iapply (run_read_w c 128 (sCol c 0) (at_wS0 c)) $$ Hw
  iintro Hw
  iapply (run_ret c); iapply Hk
  isplitl [HO]; · iexact HO
  isplitl [Hzb]; · iexact Hzb
  isplitl [Hb1]; · iexact Hb1
  isplitl [Hb2]; · iexact Hb2
  isplitl [Hx]; · iexact Hx
  iexact Hw

/-- Chunk 0 of the sent part is stored and sent, chunk 1 is stored. -/
theorem run_part2 {v2 v6 v17 v23 : BitVec 32} {D : List (ℕ × ℕ)} {Q : _ → sProp 𝕄} :
    iprop(recs (sD X W) K ∗ lHas c (lgD X W c) D ∗ (∃ f : HBuf F, sPts c 0 f) ∗ ow c (oY c 6) ∗ (∃ f : HBuf F, ryPts (py c) 0 fullShare f) ∗ dutyTok ER (dCell c 0 0) 0 false ∗ dutyTok ER (dCell (py c) 1 0) 0 false ∗ xPts c (X c) ∗ wPts c (W c) ∗ (∃ f : HBuf F, sPts c 1 f))
      ⊢ iprop(((ow c (oY c 5) ∗ cr c 0 0 ∗ xPts c (X c) ∗ wPts c (W c) ∗ lHas c (lgD X W c) ((sCol c 128, 384) :: ((sCol c 0, 128) :: D)) ∗ sPts c 1 (sD X W c)) -∗ Q ⟨⟩)
        -∗ run c (k0_part2 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 v17 v23 (k0_pay1 (X c)) (k0_pay2 (cut (sCol c 0) 128 (W c))) (constant S256x128 .f32 0x00000000#32)) Q) := by
  rw [k0_part2_eq_skeleton]; unfold k0_part2_skel
  simp only [semSignalWord, semWaitWord, Prog.lift, Prog.bind_op, Prog.bind_ret, Prog.pure_eq_ret, wp_deviceId]
  iintro ⟨#HR, Hl, Hs0, HO, Hn0, Ht0, Hu0, Hx, Hw, Hs1⟩ Hk
  iapply (run_put_l c 128 (sCol c 0) (at_lS0 c) (pay_lS0 X W c)) $$ Hl
  iintro Hl
  iapply (run_put_s c 0 (v := 128) (o := 0) rfl rfl (pay_s0 X W c)) $$ Hs0
  iintro Hs0
  iapply (wp_sendY (sD X W) K c 0 5 rfl (Fin.ext (k0_dev3_eq c)) (o := 0) (w := 128) rfl rfl sem_0_0 sem_1_0 crd_ry0) $$ [HO Hs0 Hn0 Ht0 Hu0]
  · isplitr; · iexact HR
    isplitl [HO]; · iexact HO
    isplitl [Hs0]; · iexact Hs0
    isplitl [Hn0]; · iexact Hn0
    isplitl [Ht0]; · iexact Ht0
    iexact Hu0
  iintro ⟨HO, Hcs0⟩
  iapply (run_read_x c) $$ Hx
  iintro Hx
  iapply (run_read_w c 384 (sCol c 128) (at_wS1 c)) $$ Hw
  iintro Hw
  iapply (run_put_l c 384 (sCol c 128) (at_lS1 c) (pay_lS1 X W c)) $$ Hl
  iintro Hl
  iapply (run_put_s c 1 (v := 384) (o := 128) rfl rfl (pay_s1 X W c)) $$ Hs1
  iintro Hs1
  iapply (run_ret c); iapply Hk
  isplitl [HO]; · iexact HO
  isplitl [Hcs0]; · iexact Hcs0
  isplitl [Hx]; · iexact Hx
  isplitl [Hw]; · iexact Hw
  isplitl [Hl]; · iexact Hl
  iexact Hs1

/-- Chunk 1 is sent, chunk 2 is stored. -/
theorem run_part3 {v2 v6 v17 : BitVec 32} {D : List (ℕ × ℕ)} {Q : _ → sProp 𝕄} :
    iprop(recs (sD X W) K ∗ ow c (oY c 5) ∗ sPts c 1 (sD X W c) ∗ (∃ f : HBuf F, ryPts (py c) 1 fullShare f) ∗ dutyTok ER (dCell c 0 1) 0 false ∗ dutyTok ER (dCell (py c) 1 1) 0 false ∗ xPts c (X c) ∗ wPts c (W c) ∗ lHas c (lgD X W c) D ∗ (∃ f : HBuf F, sPts c 2 f))
      ⊢ iprop(((ow c (oY c 4) ∗ cr c 0 1 ∗ xPts c (X c) ∗ wPts c (W c) ∗ lHas c (lgD X W c) ((sCol c 512, 512) :: D) ∗ sPts c 2 (sD X W c)) -∗ Q ⟨⟩)
        -∗ run c (k0_part3 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 v17) Q) := by
  rw [k0_part3_eq_skeleton]; unfold k0_part3_skel
  simp only [semSignalWord, semWaitWord, Prog.lift, Prog.bind_op, Prog.bind_ret, Prog.pure_eq_ret, wp_deviceId]
  iintro ⟨#HR, HO, Hs1, Hn1, Ht1, Hu1, Hx, Hw, Hl, Hs2⟩ Hk
  iapply (wp_sendY (sD X W) K c 1 4 rfl (Fin.ext (k0_dev4_eq c)) (o := 128) (w := 384) rfl rfl sem_0_1 sem_1_1 crd_ry1) $$ [HO Hs1 Hn1 Ht1 Hu1]
  · isplitr; · iexact HR
    isplitl [HO]; · iexact HO
    isplitl [Hs1]; · iexact Hs1
    isplitl [Hn1]; · iexact Hn1
    isplitl [Ht1]; · iexact Ht1
    iexact Hu1
  iintro ⟨HO, Hcs1⟩
  iapply (run_read_x c) $$ Hx
  iintro Hx
  iapply (run_read_w c 512 (sCol c 512) (at_wS2 c)) $$ Hw
  iintro Hw
  iapply (run_put_l c 512 (sCol c 512) (at_lS2 c) (pay_lS2 X W c)) $$ Hl
  iintro Hl
  iapply (run_put_s c 2 (v := 512) (o := 512) rfl rfl (pay_s2 X W c)) $$ Hs2
  iintro Hs2
  iapply (run_ret c); iapply Hk
  isplitl [HO]; · iexact HO
  isplitl [Hcs1]; · iexact Hcs1
  isplitl [Hx]; · iexact Hx
  isplitl [Hw]; · iexact Hw
  isplitl [Hl]; · iexact Hl
  iexact Hs2

/-- Chunk 2 is sent, chunk 3 is stored and sent, and the inputs of chunk 4 are read. -/
theorem run_part4 {v2 v6 v17 : BitVec 32} {D : List (ℕ × ℕ)} {Q : _ → sProp 𝕄} :
    iprop(recs (sD X W) K ∗ ow c (oY c 4) ∗ sPts c 2 (sD X W c) ∗ (∃ f : HBuf F, ryPts (py c) 2 fullShare f) ∗ dutyTok ER (dCell c 0 2) 0 false ∗ dutyTok ER (dCell (py c) 1 2) 0 false ∗ xPts c (X c) ∗ wPts c (W c) ∗ lHas c (lgD X W c) D ∗ (∃ f : HBuf F, sPts c 3 f) ∗ (∃ f : HBuf F, ryPts (py c) 3 fullShare f) ∗ dutyTok ER (dCell c 0 3) 0 false ∗ dutyTok ER (dCell (py c) 1 3) 0 false)
      ⊢ iprop(((cr c 0 2 ∗ lHas c (lgD X W c) ((sCol c 1024, 512) :: D) ∗ ow c (oY c 2) ∗ cr c 0 3 ∗ xPts c (X c) ∗ wPts c (W c)) -∗ Q ⟨Scalar.addi v17 1536#32, k0_pay15 (X c), k0_pay16 (cut (sCol c 1536) 384 (W c)), constant S256x384 .f32 0x00000000#32⟩)
        -∗ run c (k0_part4 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 v17) Q) := by
  rw [k0_part4_eq_skeleton]; unfold k0_part4_skel
  simp only [semSignalWord, semWaitWord, Prog.lift, Prog.bind_op, Prog.bind_ret, Prog.pure_eq_ret, wp_deviceId]
  iintro ⟨#HR, HO, Hs2, Hn2, Ht2, Hu2, Hx, Hw, Hl, Hs3, Hn3, Ht3, Hu3⟩ Hk
  iapply (wp_sendY (sD X W) K c 2 3 rfl (Fin.ext (k0_dev5_eq c)) (o := 512) (w := 512) rfl rfl sem_0_2 sem_1_2 crd_ry2) $$ [HO Hs2 Hn2 Ht2 Hu2]
  · isplitr; · iexact HR
    isplitl [HO]; · iexact HO
    isplitl [Hs2]; · iexact Hs2
    isplitl [Hn2]; · iexact Hn2
    isplitl [Ht2]; · iexact Ht2
    iexact Hu2
  iintro ⟨HO, Hcs2⟩
  iapply (run_read_x c) $$ Hx
  iintro Hx
  iapply (run_read_w c 512 (sCol c 1024) (at_wS3 c)) $$ Hw
  iintro Hw
  iapply (run_put_l c 512 (sCol c 1024) (at_lS3 c) (pay_lS3 X W c)) $$ Hl
  iintro Hl
  iapply (run_put_s c 3 (v := 512) (o := 1024) rfl rfl (pay_s3 X W c)) $$ Hs3
  iintro Hs3
  iapply (wp_sendY (sD X W) K c 3 2 rfl (Fin.ext (k0_dev6_eq c)) (o := 1024) (w := 512) rfl rfl sem_0_3 sem_1_3 crd_ry3) $$ [HO Hs3 Hn3 Ht3 Hu3]
  · isplitr; · iexact HR
    isplitl [HO]; · iexact HO
    isplitl [Hs3]; · iexact Hs3
    isplitl [Hn3]; · iexact Hn3
    isplitl [Ht3]; · iexact Ht3
    iexact Hu3
  iintro ⟨HO, Hcs3⟩
  iapply (run_read_x c) $$ Hx
  iintro Hx
  iapply (run_read_w c 384 (sCol c 1536) (at_wS4 c)) $$ Hw
  iintro Hw
  iapply (run_ret c); iapply Hk
  isplitl [Hcs2]; · iexact Hcs2
  isplitl [Hl]; · iexact Hl
  isplitl [HO]; · iexact HO
  isplitl [Hcs3]; · iexact Hcs3
  isplitl [Hx]; · iexact Hx
  iexact Hw

/-- Chunk 4 is stored and sent, chunk 5 is stored. -/
theorem run_part5 {v2 v6 v17 v123 : BitVec 32} {D : List (ℕ × ℕ)} {Q : _ → sProp 𝕄} :
    iprop(recs (sD X W) K ∗ lHas c (lgD X W c) D ∗ (∃ f : HBuf F, sPts c 4 f) ∗ ow c (oY c 2) ∗ (∃ f : HBuf F, ryPts (py c) 4 fullShare f) ∗ dutyTok ER (dCell c 0 4) 0 false ∗ dutyTok ER (dCell (py c) 1 4) 0 false ∗ xPts c (X c) ∗ wPts c (W c) ∗ (∃ f : HBuf F, sPts c 5 f))
      ⊢ iprop(((ow c (oY c 1) ∗ cr c 0 4 ∗ xPts c (X c) ∗ wPts c (W c) ∗ lHas c (lgD X W c) ((sCol c 1920, 128) :: ((sCol c 1536, 384) :: D)) ∗ sPts c 5 (sD X W c)) -∗ Q ⟨⟩)
        -∗ run c (k0_part5 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 v17 v123 (k0_pay15 (X c)) (k0_pay16 (cut (sCol c 1536) 384 (W c))) (constant S256x384 .f32 0x00000000#32)) Q) := by
  rw [k0_part5_eq_skeleton]; unfold k0_part5_skel
  simp only [semSignalWord, semWaitWord, Prog.lift, Prog.bind_op, Prog.bind_ret, Prog.pure_eq_ret, wp_deviceId]
  iintro ⟨#HR, Hl, Hs4, HO, Hn4, Ht4, Hu4, Hx, Hw, Hs5⟩ Hk
  iapply (run_put_l c 384 (sCol c 1536) (at_lS4 c) (pay_lS4 X W c)) $$ Hl
  iintro Hl
  iapply (run_put_s c 4 (v := 384) (o := 1536) rfl rfl (pay_s4 X W c)) $$ Hs4
  iintro Hs4
  iapply (wp_sendY (sD X W) K c 4 1 rfl (Fin.ext (k0_dev7_eq c)) (o := 1536) (w := 384) rfl rfl sem_0_4 sem_1_4 crd_ry4) $$ [HO Hs4 Hn4 Ht4 Hu4]
  · isplitr; · iexact HR
    isplitl [HO]; · iexact HO
    isplitl [Hs4]; · iexact Hs4
    isplitl [Hn4]; · iexact Hn4
    isplitl [Ht4]; · iexact Ht4
    iexact Hu4
  iintro ⟨HO, Hcs4⟩
  iapply (run_read_x c) $$ Hx
  iintro Hx
  iapply (run_read_w c 128 (sCol c 1920) (at_wS5 c)) $$ Hw
  iintro Hw
  iapply (run_put_l c 128 (sCol c 1920) (at_lS5 c) (pay_lS5 X W c)) $$ Hl
  iintro Hl
  iapply (run_put_s c 5 (v := 128) (o := 1920) rfl rfl (pay_s5 X W c)) $$ Hs5
  iintro Hs5
  iapply (run_ret c); iapply Hk
  isplitl [HO]; · iexact HO
  isplitl [Hcs4]; · iexact Hcs4
  isplitl [Hx]; · iexact Hx
  isplitl [Hw]; · iexact Hw
  isplitl [Hl]; · iexact Hl
  iexact Hs5

/-- Chunk 5 is sent; the received chunk 0 is forwarded. -/
theorem run_part6 {v2 v5 v6 v7 : BitVec 32} {Q : _ → sProp 𝕄} :
    iprop(recs (sD X W) K ∗ ow c (oY c 1) ∗ sPts c 5 (sD X W c) ∗ (∃ f : HBuf F, ryPts (py c) 5 fullShare f) ∗ dutyTok ER (dCell c 0 5) 0 false ∗ dutyTok ER (dCell (py c) 1 5) 0 false ∗ cr c 1 0 ∗ ps c 1 0 ∗ (∃ f : HBuf F, rxPts (px c) 0 f) ∗ dutyTok ER (dCell c 2 0) 0 false ∗ dutyTok ER (dCell (px c) 3 0) 0 false)
      ⊢ iprop(((cr c 0 5 ∗ zr c 1 0 ∗ ryPts c 0 fullShare.right (sD X W (py c)) ∗ ow c (oX c 5) ∗ cr c 2 0) -∗ Q (k0_pay23 (F := F)))
        -∗ run c (k0_part6 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v6 v7) Q) := by
  rw [k0_part6_eq_skeleton]; unfold k0_part6_skel
  simp only [semSignalWord, semWaitWord, Prog.lift, Prog.bind_op, Prog.bind_ret, Prog.pure_eq_ret, wp_deviceId]
  iintro ⟨#HR, HO, Hs5, Hn5, Ht5, Hu5, Hcy0, Hpy0, Hm0, Hv0, Hq0⟩ Hk
  iapply (wp_sendY (sD X W) K c 5 0 rfl (Fin.ext (k0_dev8_eq c)) (o := 1920) (w := 128) rfl rfl sem_0_5 sem_1_5 crd_ry5) $$ [HO Hs5 Hn5 Ht5 Hu5]
  · isplitr; · iexact HR
    isplitl [HO]; · iexact HO
    isplitl [Hs5]; · iexact Hs5
    isplitl [Hn5]; · iexact Hn5
    isplitl [Ht5]; · iexact Ht5
    iexact Hu5
  iintro ⟨HO, Hcs5⟩
  iapply (run_take_ry c (sD X W) K 0 6 sem_1_0 crd_ry0) $$ [HO Hcy0 Hpy0]
  · isplitr; · iexact HR
    isplitl [HO]; · iexact HO
    isplitl [Hcy0]; · iexact Hcy0
    iexact Hpy0
  iintro ⟨HO, Hzy0, Hyl0, Hyr0⟩
  iapply (wp_sendX (sD X W) K c 0 5 rfl (Fin.ext (k0_dev9_eq c)) (o := 0) (w := 128) rfl rfl sem_2_0 sem_3_0 crd_rx0) $$ [HO Hyl0 Hm0 Hv0 Hq0]
  · isplitr; · iexact HR
    isplitl [HO]; · iexact HO
    isplitl [Hyl0]; · iexact Hyl0
    isplitl [Hm0]; · iexact Hm0
    isplitl [Hv0]; · iexact Hv0
    iexact Hq0
  iintro ⟨HO, Hcx0⟩
  iapply (run_ret c); iapply Hk
  isplitl [Hcs5]; · iexact Hcs5
  isplitl [Hzy0]; · iexact Hzy0
  isplitl [Hyr0]; · iexact Hyr0
  isplitl [HO]; · iexact HO
  iexact Hcx0

end Cert.SoftmaxProof

end
-- ==== Proof.PartsGather.lean ====
/-
What each of the later stretches of the kernel takes and leaves: the arrivals, the forwards and the sum.
-/
module

public import proofs.«01_k».proof.Proof.Pieces

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x512 .f32) (W : Dev nD → Vec F S512x4096 .f32) (K : Dev nD × Option (Fin 4 × Fin 6) → ℕ) (c : Dev nD)

/-- Chunk 0 of the other part; the received chunk 0 enters the result; chunk 1 arrives. -/
theorem run_part7 {v2 v6 v7 v17 v19 v22 : BitVec 32} {v173 : FVec F S256x1 .f32} {D : List (ℕ × ℕ)} {E : List (ℕ × ℕ)} {Q : _ → sProp 𝕄} :
    iprop(recs (sD X W) K ∗ xPts c (X c) ∗ wPts c (W c) ∗ lHas c (lgD X W c) D ∗ ryPts c 0 fullShare.right (sD X W (py c)) ∗ oHas c (exD X W c) E ∗ ow c (oX c 5) ∗ cr c 1 1 ∗ ps c 1 1)
      ⊢ iprop(((xPts c (X c) ∗ wPts c (W c) ∗ lHas c (lgD X W c) ((kCol c 0, 128) :: D) ∗ ryPts c 0 fullShare.right (sD X W (py c)) ∗ oHas c (exD X W c) ((yCol c 0, 128) :: E) ∗ ow c (oX c 5) ∗ zr c 1 1 ∗ ryPts c 1 fullShare.left (sD X W (py c)) ∗ ryPts c 1 fullShare.right (sD X W (py c))) -∗ Q ⟨k0_pay26 v173 (ryD X W c 0 128), Scalar.addi 0#32 (Scalar.muli v7 2#32), 1#32⟩)
        -∗ run c (k0_part7 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 v7 v17 v19 v22 v173) Q) := by
  rw [k0_part7_eq_skeleton]; unfold k0_part7_skel
  simp only [semSignalWord, semWaitWord, Prog.lift, Prog.bind_op, Prog.bind_ret, Prog.pure_eq_ret, wp_deviceId]
  iintro ⟨#HR, Hx, Hw, Hl, Hyr0, Ho, HO, Hcy1, Hpy1⟩ Hk
  iapply (run_read_x c) $$ Hx
  iintro Hx
  iapply (run_read_w c 128 (kCol c 0) (at_wK0 c)) $$ Hw
  iintro Hw
  iapply (run_put_l c 128 (kCol c 0) (at_lK0 c) (pay_lK0 X W c)) $$ Hl
  iintro Hl
  iapply (run_read_ry c 0 (v := 128) (o := 0) rfl rfl) $$ Hyr0
  iintro Hyr0
  iapply (run_put_o c 128 (yCol c 0) (at_oY0 c) (pay_oY0 X W c)) $$ Ho
  iintro Ho
  iapply (run_take_ry c (sD X W) K 1 5 sem_1_1 crd_ry1) $$ [HO Hcy1 Hpy1]
  · isplitr; · iexact HR
    isplitl [HO]; · iexact HO
    isplitl [Hcy1]; · iexact Hcy1
    iexact Hpy1
  iintro ⟨HO, Hzy1, Hyl1, Hyr1⟩
  iapply (run_ret c); iapply Hk
  isplitl [Hx]; · iexact Hx
  isplitl [Hw]; · iexact Hw
  isplitl [Hl]; · iexact Hl
  isplitl [Hyr0]; · iexact Hyr0
  isplitl [Ho]; · iexact Ho
  isplitl [HO]; · iexact HO
  isplitl [Hzy1]; · iexact Hzy1
  isplitl [Hyl1]; · iexact Hyl1
  iexact Hyr1

/-- Chunk 1 is forwarded and enters the result; chunk 1 of the other part. -/
theorem run_part8 {v2 v5 v6 v17 v19 v22 v223 w1 : BitVec 32} {v213 : FVec F S256x1 .f32} {D : List (ℕ × ℕ)} {E : List (ℕ × ℕ)} {Q : _ → sProp 𝕄} :
    iprop(recs (sD X W) K ∗ ow c (oX c 5) ∗ ryPts c 1 fullShare.left (sD X W (py c)) ∗ (∃ f : HBuf F, rxPts (px c) 1 f) ∗ dutyTok ER (dCell c 2 1) 0 false ∗ dutyTok ER (dCell (px c) 3 1) 0 false ∗ xPts c (X c) ∗ wPts c (W c) ∗ lHas c (lgD X W c) D ∗ ryPts c 1 fullShare.right (sD X W (py c)) ∗ oHas c (exD X W c) E)
      ⊢ iprop(((ow c (oX c 4) ∗ cr c 2 1 ∗ xPts c (X c) ∗ wPts c (W c) ∗ lHas c (lgD X W c) ((kCol c 128, 384) :: D) ∗ ryPts c 1 fullShare.right (sD X W (py c)) ∗ oHas c (exD X W c) ((yCol c 128, 384) :: E)) -∗ Q (k0_pay29 v213 (ryD X W c 128 384)))
        -∗ run c (k0_part8 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v6 v17 v19 v22 v213 v223 w1) Q) := by
  rw [k0_part8_eq_skeleton]; unfold k0_part8_skel
  simp only [semSignalWord, semWaitWord, Prog.lift, Prog.bind_op, Prog.bind_ret, Prog.pure_eq_ret, wp_deviceId]
  iintro ⟨#HR, HO, Hyl1, Hm1, Hv1, Hq1, Hx, Hw, Hl, Hyr1, Ho⟩ Hk
  iapply (wp_sendX (sD X W) K c 1 4 rfl (Fin.ext (k0_dev10_eq c)) (o := 128) (w := 384) rfl rfl sem_2_1 sem_3_1 crd_rx1) $$ [HO Hyl1 Hm1 Hv1 Hq1]
  · isplitr; · iexact HR
    isplitl [HO]; · iexact HO
    isplitl [Hyl1]; · iexact Hyl1
    isplitl [Hm1]; · iexact Hm1
    isplitl [Hv1]; · iexact Hv1
    iexact Hq1
  iintro ⟨HO, Hcx1⟩
  iapply (run_read_x c) $$ Hx
  iintro Hx
  iapply (run_read_w c 384 (kCol c 128) (at_wK1 c)) $$ Hw
  iintro Hw
  iapply (run_put_l c 384 (kCol c 128) (at_lK1 c) (pay_lK1 X W c)) $$ Hl
  iintro Hl
  iapply (run_read_ry c 1 (v := 384) (o := 128) rfl rfl) $$ Hyr1
  iintro Hyr1
  iapply (run_put_o c 384 (yCol c 128) (at_oY1 c) (pay_oY1 X W c)) $$ Ho
  iintro Ho
  iapply (run_ret c); iapply Hk
  isplitl [HO]; · iexact HO
  isplitl [Hcx1]; · iexact Hcx1
  isplitl [Hx]; · iexact Hx
  isplitl [Hw]; · iexact Hw
  isplitl [Hl]; · iexact Hl
  isplitl [Hyr1]; · iexact Hyr1
  iexact Ho

/-- Chunk 2 arrives, is forwarded and enters the result; chunk 2 of the other part. -/
theorem run_part9 {v5 v7 v17 v19 v22 : BitVec 32} {D : List (ℕ × ℕ)} {E : List (ℕ × ℕ)} {Q : _ → sProp 𝕄} :
    iprop(recs (sD X W) K ∗ ow c (oX c 4) ∗ cr c 1 2 ∗ ps c 1 2 ∗ (∃ f : HBuf F, rxPts (px c) 2 f) ∗ dutyTok ER (dCell c 2 2) 0 false ∗ dutyTok ER (dCell (px c) 3 2) 0 false ∗ xPts c (X c) ∗ wPts c (W c) ∗ lHas c (lgD X W c) D ∗ oHas c (exD X W c) E)
      ⊢ iprop(((zr c 1 2 ∗ ow c (oX c 3) ∗ cr c 2 2 ∗ xPts c (X c) ∗ wPts c (W c) ∗ lHas c (lgD X W c) ((kCol c 512, 512) :: D) ∗ ryPts c 2 fullShare.right (sD X W (py c)) ∗ oHas c (exD X W c) ((yCol c 512, 512) :: E)) -∗ Q (k0_pay31 (ryD X W c 512 512)))
        -∗ run c (k0_part9 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v5 v7 v17 v19 v22) Q) := by
  rw [k0_part9_eq_skeleton]; unfold k0_part9_skel
  simp only [semSignalWord, semWaitWord, Prog.lift, Prog.bind_op, Prog.bind_ret, Prog.pure_eq_ret, wp_deviceId]
  iintro ⟨#HR, HO, Hcy2, Hpy2, Hm2, Hv2, Hq2, Hx, Hw, Hl, Ho⟩ Hk
  iapply (run_take_ry c (sD X W) K 2 4 sem_1_2 crd_ry2) $$ [HO Hcy2 Hpy2]
  · isplitr; · iexact HR
    isplitl [HO]; · iexact HO
    isplitl [Hcy2]; · iexact Hcy2
    iexact Hpy2
  iintro ⟨HO, Hzy2, Hyl2, Hyr2⟩
  iapply (wp_sendX (sD X W) K c 2 3 rfl (Fin.ext (k0_dev11_eq c)) (o := 512) (w := 512) rfl rfl sem_2_2 sem_3_2 crd_rx2) $$ [HO Hyl2 Hm2 Hv2 Hq2]
  · isplitr; · iexact HR
    isplitl [HO]; · iexact HO
    isplitl [Hyl2]; · iexact Hyl2
    isplitl [Hm2]; · iexact Hm2
    isplitl [Hv2]; · iexact Hv2
    iexact Hq2
  iintro ⟨HO, Hcx2⟩
  iapply (run_read_x c) $$ Hx
  iintro Hx
  iapply (run_read_w c 512 (kCol c 512) (at_wK2 c)) $$ Hw
  iintro Hw
  iapply (run_put_l c 512 (kCol c 512) (at_lK2 c) (pay_lK2 X W c)) $$ Hl
  iintro Hl
  iapply (run_read_ry c 2 (v := 512) (o := 512) rfl rfl) $$ Hyr2
  iintro Hyr2
  iapply (run_put_o c 512 (yCol c 512) (at_oY2 c) (pay_oY2 X W c)) $$ Ho
  iintro Ho
  iapply (run_ret c); iapply Hk
  isplitl [Hzy2]; · iexact Hzy2
  isplitl [HO]; · iexact HO
  isplitl [Hcx2]; · iexact Hcx2
  isplitl [Hx]; · iexact Hx
  isplitl [Hw]; · iexact Hw
  isplitl [Hl]; · iexact Hl
  isplitl [Hyr2]; · iexact Hyr2
  iexact Ho

/-- The forwarded chunk 0 arrives and enters the result; chunk 3 arrives. -/
theorem run_part10 {v2 v5 v6 v7 v19 v22 : BitVec 32} {v253 : FVec F S256x1 .f32} {v286 : FVec F S256x512 .f32} {E : List (ℕ × ℕ)} {Q : _ → sProp 𝕄} :
    iprop(recs (sD X W) K ∗ ow c (oX c 3) ∗ cr c 3 0 ∗ ps c 3 0 ∗ oHas c (exD X W c) E ∗ cr c 1 3 ∗ ps c 1 3)
      ⊢ iprop(((zr c 3 0 ∗ rxPts c 0 (sD X W (py (px c))) ∗ oHas c (exD X W c) ((xCol c 0, 128) :: E) ∗ ow c (oX c 3) ∗ zr c 1 3 ∗ ryPts c 3 fullShare.left (sD X W (py c)) ∗ ryPts c 3 fullShare.right (sD X W (py c))) -∗ Q ⟨k0_pay33 v253 v286 (rxD X W c 0 128), Scalar.muli v7 2#32, 0#32⟩)
        -∗ run c (k0_part10 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v6 v7 v19 v22 v253 v286) Q) := by
  rw [k0_part10_eq_skeleton]; unfold k0_part10_skel
  simp only [semSignalWord, semWaitWord, Prog.lift, Prog.bind_op, Prog.bind_ret, Prog.pure_eq_ret, wp_deviceId]
  iintro ⟨#HR, HO, Hdx0, Hpx0, Ho, Hcy3, Hpy3⟩ Hk
  iapply (run_take_rx c (sD X W) K 0 3 (by decide) sem_3_0 crd_rx0) $$ [HO Hdx0 Hpx0]
  · isplitr; · iexact HR
    isplitl [HO]; · iexact HO
    isplitl [Hdx0]; · iexact Hdx0
    iexact Hpx0
  iintro ⟨HO, Hzx0, Hxx0⟩
  iapply (run_read_rx c 0 (v := 128) (o := 0) rfl rfl) $$ Hxx0
  iintro Hxx0
  iapply (run_put_o c 128 (xCol c 0) (at_oX0 c) (pay_oX0 X W c)) $$ Ho
  iintro Ho
  iapply (run_take_ry c (sD X W) K 3 3 sem_1_3 crd_ry3) $$ [HO Hcy3 Hpy3]
  · isplitr; · iexact HR
    isplitl [HO]; · iexact HO
    isplitl [Hcy3]; · iexact Hcy3
    iexact Hpy3
  iintro ⟨HO, Hzy3, Hyl3, Hyr3⟩
  iapply (run_ret c); iapply Hk
  isplitl [Hzx0]; · iexact Hzx0
  isplitl [Hxx0]; · iexact Hxx0
  isplitl [Ho]; · iexact Ho
  isplitl [HO]; · iexact HO
  isplitl [Hzy3]; · iexact Hzy3
  isplitl [Hyl3]; · iexact Hyl3
  iexact Hyr3

/-- Chunk 3 is forwarded and enters the result; chunk 3 of the other part. -/
theorem run_part11 {v5 v7 v17 v19 v22 v320 w1 : BitVec 32} {v311 : FVec F S256x1 .f32} {D : List (ℕ × ℕ)} {E : List (ℕ × ℕ)} {Q : _ → sProp 𝕄} :
    iprop(recs (sD X W) K ∗ ow c (oX c 3) ∗ ryPts c 3 fullShare.left (sD X W (py c)) ∗ (∃ f : HBuf F, rxPts (px c) 3 f) ∗ dutyTok ER (dCell c 2 3) 0 false ∗ dutyTok ER (dCell (px c) 3 3) 0 false ∗ xPts c (X c) ∗ wPts c (W c) ∗ lHas c (lgD X W c) D ∗ ryPts c 3 fullShare.right (sD X W (py c)) ∗ oHas c (exD X W c) E)
      ⊢ iprop(((ow c (oX c 2) ∗ cr c 2 3 ∗ xPts c (X c) ∗ wPts c (W c) ∗ lHas c (lgD X W c) ((kCol c 1024, 512) :: D) ∗ ryPts c 3 fullShare.right (sD X W (py c)) ∗ oHas c (exD X W c) ((yCol c 1024, 512) :: E)) -∗ Q (k0_pay36 v311 (ryD X W c 1024 512)))
        -∗ run c (k0_part11 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v5 v7 v17 v19 v22 v311 v320 w1) Q) := by
  rw [k0_part11_eq_skeleton]; unfold k0_part11_skel
  simp only [semSignalWord, semWaitWord, Prog.lift, Prog.bind_op, Prog.bind_ret, Prog.pure_eq_ret, wp_deviceId]
  iintro ⟨#HR, HO, Hyl3, Hm3, Hv3, Hq3, Hx, Hw, Hl, Hyr3, Ho⟩ Hk
  iapply (wp_sendX (sD X W) K c 3 2 rfl (Fin.ext (k0_dev12_eq c)) (o := 1024) (w := 512) rfl rfl sem_2_3 sem_3_3 crd_rx3) $$ [HO Hyl3 Hm3 Hv3 Hq3]
  · isplitr; · iexact HR
    isplitl [HO]; · iexact HO
    isplitl [Hyl3]; · iexact Hyl3
    isplitl [Hm3]; · iexact Hm3
    isplitl [Hv3]; · iexact Hv3
    iexact Hq3
  iintro ⟨HO, Hcx3⟩
  iapply (run_read_x c) $$ Hx
  iintro Hx
  iapply (run_read_w c 512 (kCol c 1024) (at_wK3 c)) $$ Hw
  iintro Hw
  iapply (run_put_l c 512 (kCol c 1024) (at_lK3 c) (pay_lK3 X W c)) $$ Hl
  iintro Hl
  iapply (run_read_ry c 3 (v := 512) (o := 1024) rfl rfl) $$ Hyr3
  iintro Hyr3
  iapply (run_put_o c 512 (yCol c 1024) (at_oY3 c) (pay_oY3 X W c)) $$ Ho
  iintro Ho
  iapply (run_ret c); iapply Hk
  isplitl [HO]; · iexact HO
  isplitl [Hcx3]; · iexact Hcx3
  isplitl [Hx]; · iexact Hx
  isplitl [Hw]; · iexact Hw
  isplitl [Hl]; · iexact Hl
  isplitl [Hyr3]; · iexact Hyr3
  iexact Ho

/-- The forwarded chunk 1 arrives and enters the result; chunk 4 arrives. -/
theorem run_part12 {v2 v5 v6 v7 v19 v22 : BitVec 32} {v351 : FVec F S256x1 .f32} {E : List (ℕ × ℕ)} {Q : _ → sProp 𝕄} :
    iprop(recs (sD X W) K ∗ ow c (oX c 2) ∗ cr c 3 1 ∗ ps c 3 1 ∗ oHas c (exD X W c) E ∗ cr c 1 4 ∗ ps c 1 4)
      ⊢ iprop(((zr c 3 1 ∗ rxPts c 1 (sD X W (py (px c))) ∗ oHas c (exD X W c) ((xCol c 128, 384) :: E) ∗ ow c (oX c 2) ∗ zr c 1 4 ∗ ryPts c 4 fullShare.left (sD X W (py c)) ∗ ryPts c 4 fullShare.right (sD X W (py c))) -∗ Q (k0_pay38 v351 (rxD X W c 128 384)))
        -∗ run c (k0_part12 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v6 v7 v19 v22 v351) Q) := by
  rw [k0_part12_eq_skeleton]; unfold k0_part12_skel
  simp only [semSignalWord, semWaitWord, Prog.lift, Prog.bind_op, Prog.bind_ret, Prog.pure_eq_ret, wp_deviceId]
  iintro ⟨#HR, HO, Hdx1, Hpx1, Ho, Hcy4, Hpy4⟩ Hk
  iapply (run_take_rx c (sD X W) K 1 2 (by decide) sem_3_1 crd_rx1) $$ [HO Hdx1 Hpx1]
  · isplitr; · iexact HR
    isplitl [HO]; · iexact HO
    isplitl [Hdx1]; · iexact Hdx1
    iexact Hpx1
  iintro ⟨HO, Hzx1, Hxx1⟩
  iapply (run_read_rx c 1 (v := 384) (o := 128) rfl rfl) $$ Hxx1
  iintro Hxx1
  iapply (run_put_o c 384 (xCol c 128) (at_oX1 c) (pay_oX1 X W c)) $$ Ho
  iintro Ho
  iapply (run_take_ry c (sD X W) K 4 2 sem_1_4 crd_ry4) $$ [HO Hcy4 Hpy4]
  · isplitr; · iexact HR
    isplitl [HO]; · iexact HO
    isplitl [Hcy4]; · iexact Hcy4
    iexact Hpy4
  iintro ⟨HO, Hzy4, Hyl4, Hyr4⟩
  iapply (run_ret c); iapply Hk
  isplitl [Hzx1]; · iexact Hzx1
  isplitl [Hxx1]; · iexact Hxx1
  isplitl [Ho]; · iexact Ho
  isplitl [HO]; · iexact HO
  isplitl [Hzy4]; · iexact Hzy4
  isplitl [Hyl4]; · iexact Hyl4
  iexact Hyr4

/-- Chunk 4 is forwarded and enters the result; chunk 4 of the other part; the forwarded chunk 2 arrives. -/
theorem run_part13 {v5 v7 v17 v19 v22 : BitVec 32} {v369 : FVec F S256x1 .f32} {D : List (ℕ × ℕ)} {E : List (ℕ × ℕ)} {Q : _ → sProp 𝕄} :
    iprop(recs (sD X W) K ∗ ow c (oX c 2) ∗ ryPts c 4 fullShare.left (sD X W (py c)) ∗ (∃ f : HBuf F, rxPts (px c) 4 f) ∗ dutyTok ER (dCell c 2 4) 0 false ∗ dutyTok ER (dCell (px c) 3 4) 0 false ∗ xPts c (X c) ∗ wPts c (W c) ∗ lHas c (lgD X W c) D ∗ ryPts c 4 fullShare.right (sD X W (py c)) ∗ oHas c (exD X W c) E ∗ cr c 3 2 ∗ ps c 3 2)
      ⊢ iprop(((cr c 2 4 ∗ xPts c (X c) ∗ wPts c (W c) ∗ lHas c (lgD X W c) ((kCol c 1536, 384) :: D) ∗ ryPts c 4 fullShare.right (sD X W (py c)) ∗ oHas c (exD X W c) ((yCol c 1536, 384) :: E) ∗ ow c (oX c 1) ∗ zr c 3 2 ∗ rxPts c 2 (sD X W (py (px c)))) -∗ Q ⟨k0_pay41 v369 (ryD X W c 1536 384), (rxD X W c 512 512)⟩)
        -∗ run c (k0_part13 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v5 v7 v17 v19 v22 v369) Q) := by
  rw [k0_part13_eq_skeleton]; unfold k0_part13_skel
  simp only [semSignalWord, semWaitWord, Prog.lift, Prog.bind_op, Prog.bind_ret, Prog.pure_eq_ret, wp_deviceId]
  iintro ⟨#HR, HO, Hyl4, Hm4, Hv4, Hq4, Hx, Hw, Hl, Hyr4, Ho, Hdx2, Hpx2⟩ Hk
  iapply (wp_sendX (sD X W) K c 4 1 rfl (Fin.ext (k0_dev13_eq c)) (o := 1536) (w := 384) rfl rfl sem_2_4 sem_3_4 crd_rx4) $$ [HO Hyl4 Hm4 Hv4 Hq4]
  · isplitr; · iexact HR
    isplitl [HO]; · iexact HO
    isplitl [Hyl4]; · iexact Hyl4
    isplitl [Hm4]; · iexact Hm4
    isplitl [Hv4]; · iexact Hv4
    iexact Hq4
  iintro ⟨HO, Hcx4⟩
  iapply (run_read_x c) $$ Hx
  iintro Hx
  iapply (run_read_w c 384 (kCol c 1536) (at_wK4 c)) $$ Hw
  iintro Hw
  iapply (run_put_l c 384 (kCol c 1536) (at_lK4 c) (pay_lK4 X W c)) $$ Hl
  iintro Hl
  iapply (run_read_ry c 4 (v := 384) (o := 1536) rfl rfl) $$ Hyr4
  iintro Hyr4
  iapply (run_put_o c 384 (yCol c 1536) (at_oY4 c) (pay_oY4 X W c)) $$ Ho
  iintro Ho
  iapply (run_take_rx c (sD X W) K 2 1 (by decide) sem_3_2 crd_rx2) $$ [HO Hdx2 Hpx2]
  · isplitr; · iexact HR
    isplitl [HO]; · iexact HO
    isplitl [Hdx2]; · iexact Hdx2
    iexact Hpx2
  iintro ⟨HO, Hzx2, Hxx2⟩
  iapply (run_read_rx c 2 (v := 512) (o := 512) rfl rfl) $$ Hxx2
  iintro Hxx2
  iapply (run_ret c); iapply Hk
  isplitl [Hcx4]; · iexact Hcx4
  isplitl [Hx]; · iexact Hx
  isplitl [Hw]; · iexact Hw
  isplitl [Hl]; · iexact Hl
  isplitl [Hyr4]; · iexact Hyr4
  isplitl [Ho]; · iexact Ho
  isplitl [HO]; · iexact HO
  isplitl [Hzx2]; · iexact Hzx2
  iexact Hxx2

/-- The forwarded chunk 2 enters the result; chunk 5 arrives and is forwarded. -/
theorem run_part14 {v2 v5 v6 v7 v19 v22 : BitVec 32} {v409 : FVec F S256x1 .f32} {E : List (ℕ × ℕ)} {Q : _ → sProp 𝕄} :
    iprop(recs (sD X W) K ∗ oHas c (exD X W c) E ∗ ow c (oX c 1) ∗ cr c 1 5 ∗ ps c 1 5 ∗ (∃ f : HBuf F, rxPts (px c) 5 f) ∗ dutyTok ER (dCell c 2 5) 0 false ∗ dutyTok ER (dCell (px c) 3 5) 0 false ∗ xPts c (X c) ∗ wPts c (W c))
      ⊢ iprop(((oHas c (exD X W c) ((xCol c 512, 512) :: E) ∗ zr c 1 5 ∗ ryPts c 5 fullShare.right (sD X W (py c)) ∗ ow c (oX c 0) ∗ cr c 2 5 ∗ xPts c (X c) ∗ wPts c (W c)) -∗ Q ⟨k0_pay43 v409 (rxD X W c 512 512), k0_pay44 (X c), cut (kCol c 1920) 128 (W c)⟩)
        -∗ run c (k0_part14 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v6 v7 v19 v22 v409 (rxD X W c 512 512)) Q) := by
  rw [k0_part14_eq_skeleton]; unfold k0_part14_skel
  simp only [semSignalWord, semWaitWord, Prog.lift, Prog.bind_op, Prog.bind_ret, Prog.pure_eq_ret, wp_deviceId]
  iintro ⟨#HR, Ho, HO, Hcy5, Hpy5, Hm5, Hv5, Hq5, Hx, Hw⟩ Hk
  iapply (run_put_o c 512 (xCol c 512) (at_oX2 c) (pay_oX2 X W c)) $$ Ho
  iintro Ho
  iapply (run_take_ry c (sD X W) K 5 1 sem_1_5 crd_ry5) $$ [HO Hcy5 Hpy5]
  · isplitr; · iexact HR
    isplitl [HO]; · iexact HO
    isplitl [Hcy5]; · iexact Hcy5
    iexact Hpy5
  iintro ⟨HO, Hzy5, Hyl5, Hyr5⟩
  iapply (wp_sendX (sD X W) K c 5 0 rfl (Fin.ext (k0_dev14_eq c)) (o := 1920) (w := 128) rfl rfl sem_2_5 sem_3_5 crd_rx5) $$ [HO Hyl5 Hm5 Hv5 Hq5]
  · isplitr; · iexact HR
    isplitl [HO]; · iexact HO
    isplitl [Hyl5]; · iexact Hyl5
    isplitl [Hm5]; · iexact Hm5
    isplitl [Hv5]; · iexact Hv5
    iexact Hq5
  iintro ⟨HO, Hcx5⟩
  iapply (run_read_x c) $$ Hx
  iintro Hx
  iapply (run_read_w c 128 (kCol c 1920) (at_wK5 c)) $$ Hw
  iintro Hw
  iapply (run_ret c); iapply Hk
  isplitl [Ho]; · iexact Ho
  isplitl [Hzy5]; · iexact Hzy5
  isplitl [Hyr5]; · iexact Hyr5
  isplitl [HO]; · iexact HO
  isplitl [Hcx5]; · iexact Hcx5
  isplitl [Hx]; · iexact Hx
  iexact Hw

/-- Chunk 5 of the other part; the received chunk 5 and the forwarded chunk 3 enter the result. -/
theorem run_part15 {v5 v7 v17 v19 v22 : BitVec 32} {v427 : FVec F S256x1 .f32} {D : List (ℕ × ℕ)} {E : List (ℕ × ℕ)} {Q : _ → sProp 𝕄} :
    iprop(recs (sD X W) K ∗ lHas c (lgD X W c) D ∗ ryPts c 5 fullShare.right (sD X W (py c)) ∗ oHas c (exD X W c) E ∗ ow c (oX c 0) ∗ cr c 3 3 ∗ ps c 3 3)
      ⊢ iprop(((lHas c (lgD X W c) ((kCol c 1920, 128) :: D) ∗ ryPts c 5 fullShare.right (sD X W (py c)) ∗ ow c (oX c 0) ∗ zr c 3 3 ∗ rxPts c 3 (sD X W (py (px c))) ∗ oHas c (exD X W c) ((xCol c 1024, 512) :: ((yCol c 1920, 128) :: E))) -∗ Q ⟨k0_pay47 v427 (ryD X W c 1920 128), k0_pay49 (rxD X W c 1024 512)⟩)
        -∗ run c (k0_part15 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v5 v7 v17 v19 v22 v427 (k0_pay44 (X c)) (cut (kCol c 1920) 128 (W c))) Q) := by
  rw [k0_part15_eq_skeleton]; unfold k0_part15_skel
  simp only [semSignalWord, semWaitWord, Prog.lift, Prog.bind_op, Prog.bind_ret, Prog.pure_eq_ret, wp_deviceId]
  iintro ⟨#HR, Hl, Hyr5, Ho, HO, Hdx3, Hpx3⟩ Hk
  iapply (run_put_l c 128 (kCol c 1920) (at_lK5 c) (pay_lK5 X W c)) $$ Hl
  iintro Hl
  iapply (run_read_ry c 5 (v := 128) (o := 1920) rfl rfl) $$ Hyr5
  iintro Hyr5
  iapply (run_put_o c 128 (yCol c 1920) (at_oY5 c) (pay_oY5 X W c)) $$ Ho
  iintro Ho
  iapply (run_take_rx c (sD X W) K 3 0 (by decide) sem_3_3 crd_rx3) $$ [HO Hdx3 Hpx3]
  · isplitr; · iexact HR
    isplitl [HO]; · iexact HO
    isplitl [Hdx3]; · iexact Hdx3
    iexact Hpx3
  iintro ⟨HO, Hzx3, Hxx3⟩
  iapply (run_read_rx c 3 (v := 512) (o := 1024) rfl rfl) $$ Hxx3
  iintro Hxx3
  iapply (run_put_o c 512 (xCol c 1024) (at_oX3 c) (pay_oX3 X W c)) $$ Ho
  iintro Ho
  iapply (run_ret c); iapply Hk
  isplitl [Hl]; · iexact Hl
  isplitl [Hyr5]; · iexact Hyr5
  isplitl [HO]; · iexact HO
  isplitl [Hzx3]; · iexact Hzx3
  isplitl [Hxx3]; · iexact Hxx3
  iexact Ho

/-- The device's own half and the forwarded chunk 4 enter the result. -/
theorem run_part16 {v5 v7 v19 v20 v22 : BitVec 32} {v467 v484 : FVec F S256x1 .f32} {E : List (ℕ × ℕ)} {Q : _ → sProp 𝕄} :
    iprop(recs (sD X W) K ∗ lPts c (lgD X W c) ∗ oHas c (exD X W c) E ∗ ow c (oX c 0) ∗ cr c 3 4 ∗ ps c 3 4)
      ⊢ iprop(((lPts c (lgD X W c) ∗ ow c (oX c 0) ∗ zr c 3 4 ∗ rxPts c 4 (sD X W (py (px c))) ∗ oHas c (exD X W c) ((xCol c 1536, 384) :: ((4096 * (c.val % 2), 4096) :: E))) -∗ Q (k0_pay52 v467 v484 (lgD X W c) (rxD X W c 1536 384)))
        -∗ run c (k0_part16 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v5 v7 v19 v20 v22 v467 v484) Q) := by
  rw [k0_part16_eq_skeleton]; unfold k0_part16_skel
  simp only [semSignalWord, semWaitWord, Prog.lift, Prog.bind_op, Prog.bind_ret, Prog.pure_eq_ret, wp_deviceId]
  iintro ⟨#HR, Hl, Ho, HO, Hdx4, Hpx4⟩ Hk
  iapply (run_read_l c) $$ Hl
  iintro Hl
  iapply (run_put_o c 4096 (4096 * (c.val % 2)) (k0_off19_eq c) (pay_own X W c)) $$ Ho
  iintro Ho
  iapply (run_take_rx c (sD X W) K 4 0 (by decide) sem_3_4 crd_rx4) $$ [HO Hdx4 Hpx4]
  · isplitr; · iexact HR
    isplitl [HO]; · iexact HO
    isplitl [Hdx4]; · iexact Hdx4
    iexact Hpx4
  iintro ⟨HO, Hzx4, Hxx4⟩
  iapply (run_read_rx c 4 (v := 384) (o := 1536) rfl rfl) $$ Hxx4
  iintro Hxx4
  iapply (run_put_o c 384 (xCol c 1536) (at_oX4 c) (pay_oX4 X W c)) $$ Ho
  iintro Ho
  iapply (run_ret c); iapply Hk
  isplitl [Hl]; · iexact Hl
  isplitl [HO]; · iexact HO
  isplitl [Hzx4]; · iexact Hzx4
  isplitl [Hxx4]; · iexact Hxx4
  iexact Ho

/-- The forwarded chunk 5 enters the result, which is then scaled as a whole; the first two sends are over. -/
theorem run_part17 {v19 v22 : BitVec 32} {v510 : FVec F S256x1 .f32} {E : List (ℕ × ℕ)} (hE : ∀ j < 8192, Cov ((xCol c 1920, 128) :: E) j) {Q : _ → sProp 𝕄} :
    iprop(recs (sD X W) K ∗ ow c (oX c 0) ∗ cr c 3 5 ∗ ps c 3 5 ∗ oHas c (exD X W c) E ∗ cr c 0 0 ∗ ps c 0 0 ∗ cr c 2 0 ∗ ps c 2 0)
      ⊢ iprop(((zr c 3 5 ∗ rxPts c 5 (sD X W (py (px c))) ∗ oPts c (k0_pay54 v510 (rxD X W c 1920 128) (exD X W c)) ∗ zr c 0 0 ∗ sPts c 0 (sD X W c) ∗ ow c 0 ∗ zr c 2 0 ∗ ryPts c 0 fullShare.left (sD X W (py c))) -∗ Q ⟨⟩)
        -∗ run c (k0_part17 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v19 v22 v510) Q) := by
  rw [k0_part17_eq_skeleton]; unfold k0_part17_skel
  simp only [semSignalWord, semWaitWord, Prog.lift, Prog.bind_op, Prog.bind_ret, Prog.pure_eq_ret, wp_deviceId]
  iintro ⟨#HR, HO, Hdx5, Hpx5, Ho, Hcs0, Hps0, Hcx0, Hpf0⟩ Hk
  iapply (run_take_rx c (sD X W) K 5 0 (by decide) sem_3_5 crd_rx5) $$ [HO Hdx5 Hpx5]
  · isplitr; · iexact HR
    isplitl [HO]; · iexact HO
    isplitl [Hdx5]; · iexact Hdx5
    iexact Hpx5
  iintro ⟨HO, Hzx5, Hxx5⟩
  iapply (run_read_rx c 5 (v := 128) (o := 1920) rfl rfl) $$ Hxx5
  iintro Hxx5
  iapply (run_put_o c 128 (xCol c 1920) (at_oX5 c) (pay_oX5 X W c)) $$ Ho
  iintro Ho
  ihave Ho := (oHas_full c hE) $$ Ho
  iapply (run_read_o c) $$ Ho
  iintro Ho
  iapply (run_put_all c) $$ Ho
  iintro Ho
  iapply (run_take_sy c (sD X W) K 0 sem_0_0 crd_s0) $$ [HO Hcs0 Hps0]
  · isplitr; · iexact HR
    isplitl [HO]; · iexact HO
    isplitl [Hcs0]; · iexact Hcs0
    iexact Hps0
  iintro ⟨HO, Hzs0, Hs0⟩
  iapply (run_take_sx c (sD X W) K 0 sem_2_0 crd_ry0) $$ [HO Hcx0 Hpf0]
  · isplitr; · iexact HR
    isplitl [HO]; · iexact HO
    isplitl [Hcx0]; · iexact Hcx0
    iexact Hpf0
  iintro ⟨HO, Hzf0, Hyl0⟩
  iapply (run_ret c); iapply Hk
  isplitl [Hzx5]; · iexact Hzx5
  isplitl [Hxx5]; · iexact Hxx5
  isplitl [Ho]; · iexact Ho
  isplitl [Hzs0]; · iexact Hzs0
  isplitl [Hs0]; · iexact Hs0
  isplitl [HO]; · iexact HO
  isplitl [Hzf0]; · iexact Hzf0
  iexact Hyl0

/-- More of the sends are over. -/
theorem run_part18 {Q : _ → sProp 𝕄} :
    iprop(recs (sD X W) K ∗ ow c 0 ∗ cr c 0 1 ∗ ps c 0 1 ∗ cr c 2 1 ∗ ps c 2 1 ∗ cr c 0 2 ∗ ps c 0 2 ∗ cr c 2 2 ∗ ps c 2 2 ∗ cr c 0 3 ∗ ps c 0 3)
      ⊢ iprop(((zr c 0 1 ∗ sPts c 1 (sD X W c) ∗ zr c 2 1 ∗ ryPts c 1 fullShare.left (sD X W (py c)) ∗ zr c 0 2 ∗ sPts c 2 (sD X W c) ∗ zr c 2 2 ∗ ryPts c 2 fullShare.left (sD X W (py c)) ∗ ow c 0 ∗ zr c 0 3 ∗ sPts c 3 (sD X W c)) -∗ Q ⟨⟩)
        -∗ run c (k0_part18 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [k0_part18_eq_skeleton]; unfold k0_part18_skel
  simp only [semSignalWord, semWaitWord, Prog.lift, Prog.bind_op, Prog.bind_ret, Prog.pure_eq_ret, wp_deviceId]
  iintro ⟨#HR, HO, Hcs1, Hps1, Hcx1, Hpf1, Hcs2, Hps2, Hcx2, Hpf2, Hcs3, Hps3⟩ Hk
  iapply (run_take_sy c (sD X W) K 1 sem_0_1 crd_s1) $$ [HO Hcs1 Hps1]
  · isplitr; · iexact HR
    isplitl [HO]; · iexact HO
    isplitl [Hcs1]; · iexact Hcs1
    iexact Hps1
  iintro ⟨HO, Hzs1, Hs1⟩
  iapply (run_take_sx c (sD X W) K 1 sem_2_1 crd_ry1) $$ [HO Hcx1 Hpf1]
  · isplitr; · iexact HR
    isplitl [HO]; · iexact HO
    isplitl [Hcx1]; · iexact Hcx1
    iexact Hpf1
  iintro ⟨HO, Hzf1, Hyl1⟩
  iapply (run_take_sy c (sD X W) K 2 sem_0_2 crd_s2) $$ [HO Hcs2 Hps2]
  · isplitr; · iexact HR
    isplitl [HO]; · iexact HO
    isplitl [Hcs2]; · iexact Hcs2
    iexact Hps2
  iintro ⟨HO, Hzs2, Hs2⟩
  iapply (run_take_sx c (sD X W) K 2 sem_2_2 crd_ry2) $$ [HO Hcx2 Hpf2]
  · isplitr; · iexact HR
    isplitl [HO]; · iexact HO
    isplitl [Hcx2]; · iexact Hcx2
    iexact Hpf2
  iintro ⟨HO, Hzf2, Hyl2⟩
  iapply (run_take_sy c (sD X W) K 3 sem_0_3 crd_s3) $$ [HO Hcs3 Hps3]
  · isplitr; · iexact HR
    isplitl [HO]; · iexact HO
    isplitl [Hcs3]; · iexact Hcs3
    iexact Hps3
  iintro ⟨HO, Hzs3, Hs3⟩
  iapply (run_ret c); iapply Hk
  isplitl [Hzs1]; · iexact Hzs1
  isplitl [Hs1]; · iexact Hs1
  isplitl [Hzf1]; · iexact Hzf1
  isplitl [Hyl1]; · iexact Hyl1
  isplitl [Hzs2]; · iexact Hzs2
  isplitl [Hs2]; · iexact Hs2
  isplitl [Hzf2]; · iexact Hzf2
  isplitl [Hyl2]; · iexact Hyl2
  isplitl [HO]; · iexact HO
  isplitl [Hzs3]; · iexact Hzs3
  iexact Hs3

end Cert.SoftmaxProof

end
-- ==== Proof.Body.lean ====
/-
The whole of the kernel on one device: what it takes at its start and what it leaves.
-/
module

public import proofs.«01_k».proof.Proof.PartsSend
public import proofs.«01_k».proof.Proof.PartsGather

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x512 .f32) (W : Dev nD → Vec F S512x4096 .f32) (K : Dev nD × Option (Fin 4 × Fin 6) → ℕ) (c : Dev nD)

/-! ## What a device starts and ends with -/

omit [FloatOps F] in
/-- Six chunks written out. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

omit [FloatOps F] in
/-- The neighbour's first receiving buffer, chunk by chunk. -/
theorem barPay_false : barPay (F := F) c false ⊢ iprop((∃ f : HBuf F, ryPts (py c) 0 fullShare f) ∗ (∃ f : HBuf F, ryPts (py c) 1 fullShare f) ∗ (∃ f : HBuf F, ryPts (py c) 2 fullShare f) ∗ (∃ f : HBuf F, ryPts (py c) 3 fullShare f) ∗ (∃ f : HBuf F, ryPts (py c) 4 fullShare f) ∗ (∃ f : HBuf F, ryPts (py c) 5 fullShare f)) := Entails.of_eq (six fun k => iprop(∃ f : HBuf F, ryPts (py c) k fullShare f))

omit [FloatOps F] in
/-- The neighbour's second receiving buffer, chunk by chunk. -/
theorem barPay_true : barPay (F := F) c true ⊢ iprop((∃ f : HBuf F, rxPts (px c) 0 f) ∗ (∃ f : HBuf F, rxPts (px c) 1 f) ∗ (∃ f : HBuf F, rxPts (px c) 2 f) ∗ (∃ f : HBuf F, rxPts (px c) 3 f) ∗ (∃ f : HBuf F, rxPts (px c) 4 f) ∗ (∃ f : HBuf F, rxPts (px c) 5 f)) := Entails.of_eq (six fun k => iprop(∃ f : HBuf F, rxPts (px c) k f))

/-- What the device needs for chunk `k`: the right to raise the two send and the two receive cells, the credit of the two
arrivals, and its place at its own four cells. -/
def kit (k : Fin 6) : sProp 𝕄 :=
  iprop(dutyTok ER (dCell c 0 k) 0 false ∗ dutyTok ER (dCell (py c) 1 k) 0 false ∗ dutyTok ER (dCell c 2 k) 0 false
    ∗ dutyTok ER (dCell (px c) 3 k) 0 false ∗ cr c 1 k ∗ cr c 3 k ∗ ps c 0 k ∗ ps c 1 k ∗ ps c 2 k ∗ ps c 3 k)

/-- What the device holds at its start, besides its buffers. -/
def kits : sProp 𝕄 :=
  iprop(dutyTok ER (barCell (py c)) 0 false ∗ dutyTok ER (barCell (px c)) 0 true ∗ cred (tallyAt (barCell c) () 2)
    ∗ atPos ER (barCell c) 0 ∅ 0 ∗ bigSep Finset.univ fun k : Fin 6 => kit c k)

/-- The four cells of chunk `k` back at zero. -/
def zeros (k : Fin 6) : sProp 𝕄 := iprop(zr c 0 k ∗ zr c 1 k ∗ zr c 2 k ∗ zr c 3 k)

omit [FloatOps F] in
/-- The pieces of the logits cover the buffer. -/
theorem cov_l : ∀ j < 4096, Cov [(kCol c 1920, 128), (kCol c 1536, 384), (kCol c 1024, 512), (kCol c 512, 512), (kCol c 128, 384), (kCol c 0, 128), (sCol c 1920, 128), (sCol c 1536, 384), (sCol c 1024, 512), (sCol c 512, 512), (sCol c 128, 384), (sCol c 0, 128)] j := by
  intro j hj
  have hc : c.val < 4 := c.isLt
  simp only [Cov, List.mem_cons, List.not_mem_nil, or_false, exists_eq_or_imp, exists_eq_left, sCol, kCol]
  have h : c.val / 2 = 0 ∨ c.val / 2 = 1 := by omega
  rcases h with h | h <;> rw [h] <;> omega

omit [FloatOps F] in
/-- The pieces of the result cover it. -/
theorem cov_o : ∀ j < 8192, Cov [(xCol c 1920, 128), (xCol c 1536, 384), (4096 * (c.val % 2), 4096), (xCol c 1024, 512), (yCol c 1920, 128), (xCol c 512, 512), (yCol c 1536, 384), (xCol c 128, 384), (yCol c 1024, 512), (xCol c 0, 128), (yCol c 512, 512), (yCol c 128, 384), (yCol c 0, 128)] j := by
  intro j hj
  have hc : c.val < 4 := c.isLt
  simp only [Cov, List.mem_cons, List.not_mem_nil, or_false, exists_eq_or_imp, exists_eq_left, yCol, xCol]
  have h : c.val / 2 = 0 ∨ c.val / 2 = 1 := by omega
  have h' : c.val % 2 = 0 ∨ c.val % 2 = 1 := by omega
  rcases h with h | h <;> rcases h' with h' | h' <;> rw [h, h'] <;> omega

/-- Of a buffer with anything in it no column is claimed. -/
theorem lHas_nil {t : Vec F S256x4096 .f32} : iprop(∃ f, lPts (F := F) c f) ⊢ lHas c t [] := by
  unfold lHas
  iintro ⟨%f, H⟩
  iexists f
  isplitr
  · ipureintro; rintro i ⟨p, hp, -⟩; exact absurd hp (List.not_mem_nil)
  iexact H

/-- Of a buffer with anything in it no column is claimed. -/
theorem oHas_nil {t : Vec F S256x8192 .f32} : iprop(∃ f, oPts (F := F) c f) ⊢ oHas c t [] := by
  unfold oHas
  iintro ⟨%f, H⟩
  iexists f
  isplitr
  · ipureintro; rintro i ⟨p, hp, -⟩; exact absurd hp (List.not_mem_nil)
  iexact H

/-- The kernel on device `c`: from its kits and its buffers, with anything in those it writes, to the result in the staged
output, with every cell back at zero. -/
theorem run_body {Q : _ → sProp 𝕄} :
    iprop(recs (sD X W) K ∗ ow c (O₀ c) ∗ kits c ∗ xPts c (X c) ∗ wPts c (W c) ∗ (∃ f, lPts c f) ∗ (∃ f, oPts c f)
        ∗ (bigSep Finset.univ fun k : Fin 6 => iprop(∃ f : HBuf F, sPts c k f))
        ∗ (bigSep Finset.univ fun k : Fin 6 => iprop(∃ f : HBuf F, ryPts c k fullShare f))
        ∗ (bigSep Finset.univ fun k : Fin 6 => iprop(∃ f : HBuf F, rxPts c k f)))
      ⊢ iprop(((ow c 0 ∗ semVal (barCell c) 0 ∗ (bigSep Finset.univ fun k : Fin 6 => zeros c k)
            ∗ xPts c (X c) ∗ wPts c (W c) ∗ lPts c (lgD X W c) ∗ oPts c (outD X W c)
            ∗ (bigSep Finset.univ fun k : Fin 6 => sPts c k (sD X W c))
            ∗ (bigSep Finset.univ fun k : Fin 6 => ryPts c k fullShare (sD X W (py c)))
            ∗ (bigSep Finset.univ fun k : Fin 6 => rxPts c k (sD X W (py (px c))))) -∗ Q ⟨⟩)
        -∗ run c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [cc0_body_eq_skeleton]; unfold cc0_body_skel
  rw [k0_part19_eq_skeleton]; unfold k0_part19_skel
  simp only [Prog.lift, Prog.bind_op, Prog.bind_ret, Prog.pure_eq_ret, wp_bind]
  unfold kits
  iintro ⟨#HR, HO, ⟨Htb, Htc, Hcb, Hpb, Hk6⟩, Hx, Hw, Hl, Ho, Hs, Hry, Hrx⟩ Hk
  ihave Hk6 := (Entails.of_eq (six _)) $$ Hk6
  unfold kit
  icases Hk6 with ⟨⟨Ht0, Hu0, Hv0, Hq0, Hcy0, Hdx0, Hps0, Hpy0, Hpf0, Hpx0⟩, ⟨Ht1, Hu1, Hv1, Hq1, Hcy1, Hdx1, Hps1, Hpy1, Hpf1, Hpx1⟩, ⟨Ht2, Hu2, Hv2, Hq2, Hcy2, Hdx2, Hps2, Hpy2, Hpf2, Hpx2⟩, ⟨Ht3, Hu3, Hv3, Hq3, Hcy3, Hdx3, Hps3, Hpy3, Hpf3, Hpx3⟩, ⟨Ht4, Hu4, Hv4, Hq4, Hcy4, Hdx4, Hps4, Hpy4, Hpf4, Hpx4⟩, ⟨Ht5, Hu5, Hv5, Hq5, Hcy5, Hdx5, Hps5, Hpy5, Hpf5, Hpx5⟩⟩
  ihave Hs := (Entails.of_eq (six _)) $$ Hs
  icases Hs with ⟨Hs0, Hs1, Hs2, Hs3, Hs4, Hs5⟩
  ihave Hl := (lHas_nil c (t := lgD X W c)) $$ Hl
  ihave Ho := (oHas_nil c (t := exD X W c)) $$ Ho
  iapply (run_part1 X W K c) $$ [HO Htb Hry Htc Hrx Hcb Hpb Hx Hw]
  · isplitr; · iexact HR
    isplitl [HO]; · iexact HO
    isplitl [Htb]; · iexact Htb
    isplitl [Hry]; · iexact Hry
    isplitl [Htc]; · iexact Htc
    isplitl [Hrx]; · iexact Hrx
    isplitl [Hcb]; · iexact Hcb
    isplitl [Hpb]; · iexact Hpb
    isplitl [Hx]; · iexact Hx
    iexact Hw
  iintro ⟨HO, Hzb, Hb1, Hb2, Hx, Hw⟩
  dsimp only
  ihave Hb1 := (barPay_false c) $$ Hb1
  ihave Hb2 := (barPay_true c) $$ Hb2
  icases Hb1 with ⟨Hn0, Hn1, Hn2, Hn3, Hn4, Hn5⟩
  icases Hb2 with ⟨Hm0, Hm1, Hm2, Hm3, Hm4, Hm5⟩
  iapply (run_part2 X W K c) $$ [Hl Hs0 HO Hn0 Ht0 Hu0 Hx Hw Hs1]
  · isplitr; · iexact HR
    isplitl [Hl]; · iexact Hl
    isplitl [Hs0]; · iexact Hs0
    isplitl [HO]; · iexact HO
    isplitl [Hn0]; · iexact Hn0
    isplitl [Ht0]; · iexact Ht0
    isplitl [Hu0]; · iexact Hu0
    isplitl [Hx]; · iexact Hx
    isplitl [Hw]; · iexact Hw
    iexact Hs1
  iintro ⟨HO, Hcs0, Hx, Hw, Hl, Hs1⟩
  iapply (run_part3 X W K c) $$ [HO Hs1 Hn1 Ht1 Hu1 Hx Hw Hl Hs2]
  · isplitr; · iexact HR
    isplitl [HO]; · iexact HO
    isplitl [Hs1]; · iexact Hs1
    isplitl [Hn1]; · iexact Hn1
    isplitl [Ht1]; · iexact Ht1
    isplitl [Hu1]; · iexact Hu1
    isplitl [Hx]; · iexact Hx
    isplitl [Hw]; · iexact Hw
    isplitl [Hl]; · iexact Hl
    iexact Hs2
  iintro ⟨HO, Hcs1, Hx, Hw, Hl, Hs2⟩
  iapply (run_part4 X W K c) $$ [HO Hs2 Hn2 Ht2 Hu2 Hx Hw Hl Hs3 Hn3 Ht3 Hu3]
  · isplitr; · iexact HR
    isplitl [HO]; · iexact HO
    isplitl [Hs2]; · iexact Hs2
    isplitl [Hn2]; · iexact Hn2
    isplitl [Ht2]; · iexact Ht2
    isplitl [Hu2]; · iexact Hu2
    isplitl [Hx]; · iexact Hx
    isplitl [Hw]; · iexact Hw
    isplitl [Hl]; · iexact Hl
    isplitl [Hs3]; · iexact Hs3
    isplitl [Hn3]; · iexact Hn3
    isplitl [Ht3]; · iexact Ht3
    iexact Hu3
  iintro ⟨Hcs2, Hl, HO, Hcs3, Hx, Hw⟩
  dsimp only
  iapply (run_part5 X W K c) $$ [Hl Hs4 HO Hn4 Ht4 Hu4 Hx Hw Hs5]
  · isplitr; · iexact HR
    isplitl [Hl]; · iexact Hl
    isplitl [Hs4]; · iexact Hs4
    isplitl [HO]; · iexact HO
    isplitl [Hn4]; · iexact Hn4
    isplitl [Ht4]; · iexact Ht4
    isplitl [Hu4]; · iexact Hu4
    isplitl [Hx]; · iexact Hx
    isplitl [Hw]; · iexact Hw
    iexact Hs5
  iintro ⟨HO, Hcs4, Hx, Hw, Hl, Hs5⟩
  iapply (run_part6 X W K c) $$ [HO Hs5 Hn5 Ht5 Hu5 Hcy0 Hpy0 Hm0 Hv0 Hq0]
  · isplitr; · iexact HR
    isplitl [HO]; · iexact HO
    isplitl [Hs5]; · iexact Hs5
    isplitl [Hn5]; · iexact Hn5
    isplitl [Ht5]; · iexact Ht5
    isplitl [Hu5]; · iexact Hu5
    isplitl [Hcy0]; · iexact Hcy0
    isplitl [Hpy0]; · iexact Hpy0
    isplitl [Hm0]; · iexact Hm0
    isplitl [Hv0]; · iexact Hv0
    iexact Hq0
  iintro ⟨Hcs5, Hzy0, Hyr0, HO, Hcx0⟩
  iapply (run_part7 X W K c) $$ [Hx Hw Hl Hyr0 Ho HO Hcy1 Hpy1]
  · isplitr; · iexact HR
    isplitl [Hx]; · iexact Hx
    isplitl [Hw]; · iexact Hw
    isplitl [Hl]; · iexact Hl
    isplitl [Hyr0]; · iexact Hyr0
    isplitl [Ho]; · iexact Ho
    isplitl [HO]; · iexact HO
    isplitl [Hcy1]; · iexact Hcy1
    iexact Hpy1
  iintro ⟨Hx, Hw, Hl, Hyr0, Ho, HO, Hzy1, Hyl1, Hyr1⟩
  dsimp only
  iapply (run_part8 X W K c) $$ [HO Hyl1 Hm1 Hv1 Hq1 Hx Hw Hl Hyr1 Ho]
  · isplitr; · iexact HR
    isplitl [HO]; · iexact HO
    isplitl [Hyl1]; · iexact Hyl1
    isplitl [Hm1]; · iexact Hm1
    isplitl [Hv1]; · iexact Hv1
    isplitl [Hq1]; · iexact Hq1
    isplitl [Hx]; · iexact Hx
    isplitl [Hw]; · iexact Hw
    isplitl [Hl]; · iexact Hl
    isplitl [Hyr1]; · iexact Hyr1
    iexact Ho
  iintro ⟨HO, Hcx1, Hx, Hw, Hl, Hyr1, Ho⟩
  iapply (run_part9 X W K c) $$ [HO Hcy2 Hpy2 Hm2 Hv2 Hq2 Hx Hw Hl Ho]
  · isplitr; · iexact HR
    isplitl [HO]; · iexact HO
    isplitl [Hcy2]; · iexact Hcy2
    isplitl [Hpy2]; · iexact Hpy2
    isplitl [Hm2]; · iexact Hm2
    isplitl [Hv2]; · iexact Hv2
    isplitl [Hq2]; · iexact Hq2
    isplitl [Hx]; · iexact Hx
    isplitl [Hw]; · iexact Hw
    isplitl [Hl]; · iexact Hl
    iexact Ho
  iintro ⟨Hzy2, HO, Hcx2, Hx, Hw, Hl, Hyr2, Ho⟩
  iapply (run_part10 X W K c) $$ [HO Hdx0 Hpx0 Ho Hcy3 Hpy3]
  · isplitr; · iexact HR
    isplitl [HO]; · iexact HO
    isplitl [Hdx0]; · iexact Hdx0
    isplitl [Hpx0]; · iexact Hpx0
    isplitl [Ho]; · iexact Ho
    isplitl [Hcy3]; · iexact Hcy3
    iexact Hpy3
  iintro ⟨Hzx0, Hxx0, Ho, HO, Hzy3, Hyl3, Hyr3⟩
  dsimp only
  iapply (run_part11 X W K c) $$ [HO Hyl3 Hm3 Hv3 Hq3 Hx Hw Hl Hyr3 Ho]
  · isplitr; · iexact HR
    isplitl [HO]; · iexact HO
    isplitl [Hyl3]; · iexact Hyl3
    isplitl [Hm3]; · iexact Hm3
    isplitl [Hv3]; · iexact Hv3
    isplitl [Hq3]; · iexact Hq3
    isplitl [Hx]; · iexact Hx
    isplitl [Hw]; · iexact Hw
    isplitl [Hl]; · iexact Hl
    isplitl [Hyr3]; · iexact Hyr3
    iexact Ho
  iintro ⟨HO, Hcx3, Hx, Hw, Hl, Hyr3, Ho⟩
  iapply (run_part12 X W K c) $$ [HO Hdx1 Hpx1 Ho Hcy4 Hpy4]
  · isplitr; · iexact HR
    isplitl [HO]; · iexact HO
    isplitl [Hdx1]; · iexact Hdx1
    isplitl [Hpx1]; · iexact Hpx1
    isplitl [Ho]; · iexact Ho
    isplitl [Hcy4]; · iexact Hcy4
    iexact Hpy4
  iintro ⟨Hzx1, Hxx1, Ho, HO, Hzy4, Hyl4, Hyr4⟩
  iapply (run_part13 X W K c) $$ [HO Hyl4 Hm4 Hv4 Hq4 Hx Hw Hl Hyr4 Ho Hdx2 Hpx2]
  · isplitr; · iexact HR
    isplitl [HO]; · iexact HO
    isplitl [Hyl4]; · iexact Hyl4
    isplitl [Hm4]; · iexact Hm4
    isplitl [Hv4]; · iexact Hv4
    isplitl [Hq4]; · iexact Hq4
    isplitl [Hx]; · iexact Hx
    isplitl [Hw]; · iexact Hw
    isplitl [Hl]; · iexact Hl
    isplitl [Hyr4]; · iexact Hyr4
    isplitl [Ho]; · iexact Ho
    isplitl [Hdx2]; · iexact Hdx2
    iexact Hpx2
  iintro ⟨Hcx4, Hx, Hw, Hl, Hyr4, Ho, HO, Hzx2, Hxx2⟩
  dsimp only
  iapply (run_part14 X W K c) $$ [Ho HO Hcy5 Hpy5 Hm5 Hv5 Hq5 Hx Hw]
  · isplitr; · iexact HR
    isplitl [Ho]; · iexact Ho
    isplitl [HO]; · iexact HO
    isplitl [Hcy5]; · iexact Hcy5
    isplitl [Hpy5]; · iexact Hpy5
    isplitl [Hm5]; · iexact Hm5
    isplitl [Hv5]; · iexact Hv5
    isplitl [Hq5]; · iexact Hq5
    isplitl [Hx]; · iexact Hx
    iexact Hw
  iintro ⟨Ho, Hzy5, Hyr5, HO, Hcx5, Hx, Hw⟩
  dsimp only
  iapply (run_part15 X W K c) $$ [Hl Hyr5 Ho HO Hdx3 Hpx3]
  · isplitr; · iexact HR
    isplitl [Hl]; · iexact Hl
    isplitl [Hyr5]; · iexact Hyr5
    isplitl [Ho]; · iexact Ho
    isplitl [HO]; · iexact HO
    isplitl [Hdx3]; · iexact Hdx3
    iexact Hpx3
  iintro ⟨Hl, Hyr5, HO, Hzx3, Hxx3, Ho⟩
  dsimp only
  ihave Hl := (lHas_full c (cov_l c)) $$ Hl
  iapply (run_part16 X W K c) $$ [Hl Ho HO Hdx4 Hpx4]
  · isplitr; · iexact HR
    isplitl [Hl]; · iexact Hl
    isplitl [Ho]; · iexact Ho
    isplitl [HO]; · iexact HO
    isplitl [Hdx4]; · iexact Hdx4
    iexact Hpx4
  iintro ⟨Hl, HO, Hzx4, Hxx4, Ho⟩
  iapply (run_part17 X W K c (cov_o c)) $$ [HO Hdx5 Hpx5 Ho Hcs0 Hps0 Hcx0 Hpf0]
  · isplitr; · iexact HR
    isplitl [HO]; · iexact HO
    isplitl [Hdx5]; · iexact Hdx5
    isplitl [Hpx5]; · iexact Hpx5
    isplitl [Ho]; · iexact Ho
    isplitl [Hcs0]; · iexact Hcs0
    isplitl [Hps0]; · iexact Hps0
    isplitl [Hcx0]; · iexact Hcx0
    iexact Hpf0
  iintro ⟨Hzx5, Hxx5, Ho, Hzs0, Hs0, HO, Hzf0, Hyl0⟩
  iapply (run_part18 X W K c) $$ [HO Hcs1 Hps1 Hcx1 Hpf1 Hcs2 Hps2 Hcx2 Hpf2 Hcs3 Hps3]
  · isplitr; · iexact HR
    isplitl [HO]; · iexact HO
    isplitl [Hcs1]; · iexact Hcs1
    isplitl [Hps1]; · iexact Hps1
    isplitl [Hcx1]; · iexact Hcx1
    isplitl [Hpf1]; · iexact Hpf1
    isplitl [Hcs2]; · iexact Hcs2
    isplitl [Hps2]; · iexact Hps2
    isplitl [Hcx2]; · iexact Hcx2
    isplitl [Hpf2]; · iexact Hpf2
    isplitl [Hcs3]; · iexact Hcs3
    iexact Hps3
  iintro ⟨Hzs1, Hs1, Hzf1, Hyl1, Hzs2, Hs2, Hzf2, Hyl2, HO, Hzs3, Hs3⟩
  iapply (run_take_sx c (sD X W) K 3 sem_2_3 crd_ry3) $$ [HO Hcx3 Hpf3]
  · isplitr; · iexact HR
    isplitl [HO]; · iexact HO
    isplitl [Hcx3]; · iexact Hcx3
    iexact Hpf3
  iintro ⟨HO, Hzf3, Hyl3⟩
  iapply (run_take_sy c (sD X W) K 4 sem_0_4 crd_s4) $$ [HO Hcs4 Hps4]
  · isplitr; · iexact HR
    isplitl [HO]; · iexact HO
    isplitl [Hcs4]; · iexact Hcs4
    iexact Hps4
  iintro ⟨HO, Hzs4, Hs4⟩
  iapply (run_take_sx c (sD X W) K 4 sem_2_4 crd_ry4) $$ [HO Hcx4 Hpf4]
  · isplitr; · iexact HR
    isplitl [HO]; · iexact HO
    isplitl [Hcx4]; · iexact Hcx4
    iexact Hpf4
  iintro ⟨HO, Hzf4, Hyl4⟩
  iapply (run_ret c)
  iapply (run_take_sy c (sD X W) K 5 sem_0_5 crd_s5) $$ [HO Hcs5 Hps5]
  · isplitr; · iexact HR
    isplitl [HO]; · iexact HO
    isplitl [Hcs5]; · iexact Hcs5
    iexact Hps5
  iintro ⟨HO, Hzs5, Hs5⟩
  iapply (run_take_sx c (sD X W) K 5 sem_2_5 crd_ry5) $$ [HO Hcx5 Hpf5]
  · isplitr; · iexact HR
    isplitl [HO]; · iexact HO
    isplitl [Hcx5]; · iexact Hcx5
    iexact Hpf5
  iintro ⟨HO, Hzf5, Hyl5⟩
  ihave Hy0 := (join_ry c 0) $$ [Hyl0 Hyr0]
  · isplitl [Hyl0]; · iexact Hyl0
    iexact Hyr0
  ihave Hy1 := (join_ry c 1) $$ [Hyl1 Hyr1]
  · isplitl [Hyl1]; · iexact Hyl1
    iexact Hyr1
  ihave Hy2 := (join_ry c 2) $$ [Hyl2 Hyr2]
  · isplitl [Hyl2]; · iexact Hyl2
    iexact Hyr2
  ihave Hy3 := (join_ry c 3) $$ [Hyl3 Hyr3]
  · isplitl [Hyl3]; · iexact Hyl3
    iexact Hyr3
  ihave Hy4 := (join_ry c 4) $$ [Hyl4 Hyr4]
  · isplitl [Hyl4]; · iexact Hyl4
    iexact Hyr4
  ihave Hy5 := (join_ry c 5) $$ [Hyl5 Hyr5]
  · isplitl [Hyl5]; · iexact Hyl5
    iexact Hyr5
  iapply (run_ret c); iapply Hk
  simp only [six]; unfold zeros
  isplitl [HO]; · iexact HO
  isplitl [Hzb]; · iexact Hzb
  isplitl [Hzs0 Hzy0 Hzf0 Hzx0 Hzs1 Hzy1 Hzf1 Hzx1 Hzs2 Hzy2 Hzf2 Hzx2 Hzs3 Hzy3 Hzf3 Hzx3 Hzs4 Hzy4 Hzf4 Hzx4 Hzs5 Hzy5 Hzf5 Hzx5]
  · isplitl [Hzs0 Hzy0 Hzf0 Hzx0]
    · isplitl [Hzs0]; · iexact Hzs0
      isplitl [Hzy0]; · iexact Hzy0
      isplitl [Hzf0]; · iexact Hzf0
      iexact Hzx0
    isplitl [Hzs1 Hzy1 Hzf1 Hzx1]
    · isplitl [Hzs1]; · iexact Hzs1
      isplitl [Hzy1]; · iexact Hzy1
      isplitl [Hzf1]; · iexact Hzf1
      iexact Hzx1
    isplitl [Hzs2 Hzy2 Hzf2 Hzx2]
    · isplitl [Hzs2]; · iexact Hzs2
      isplitl [Hzy2]; · iexact Hzy2
      isplitl [Hzf2]; · iexact Hzf2
      iexact Hzx2
    isplitl [Hzs3 Hzy3 Hzf3 Hzx3]
    · isplitl [Hzs3]; · iexact Hzs3
      isplitl [Hzy3]; · iexact Hzy3
      isplitl [Hzf3]; · iexact Hzf3
      iexact Hzx3
    isplitl [Hzs4 Hzy4 Hzf4 Hzx4]
    · isplitl [Hzs4]; · iexact Hzs4
      isplitl [Hzy4]; · iexact Hzy4
      isplitl [Hzf4]; · iexact Hzf4
      iexact Hzx4
    isplitl [Hzs5]; · iexact Hzs5
    isplitl [Hzy5]; · iexact Hzy5
    isplitl [Hzf5]; · iexact Hzf5
    iexact Hzx5
  isplitl [Hx]; · iexact Hx
  isplitl [Hw]; · iexact Hw
  isplitl [Hl]; · iexact Hl
  isplitl [Ho]; · iexact Ho
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  isplitl [Hy0 Hy1 Hy2 Hy3 Hy4 Hy5]
  · isplitl [Hy0]; · iexact Hy0
    isplitl [Hy1]; · iexact Hy1
    isplitl [Hy2]; · iexact Hy2
    isplitl [Hy3]; · iexact Hy3
    isplitl [Hy4]; · iexact Hy4
    iexact Hy5
  isplitl [Hxx0]; · iexact Hxx0
  isplitl [Hxx1]; · iexact Hxx1
  isplitl [Hxx2]; · iexact Hxx2
  isplitl [Hxx3]; · iexact Hxx3
  isplitl [Hxx4]; · iexact Hxx4
  iexact Hxx5

end Cert.SoftmaxProof

end
-- ==== Proof.Region.lean ====
/-
The kernel's call as the pipeline sees it: what a device holds before and after the body, and that the body takes the one to
the other.
-/
module

public import proofs.«01_k».proof.Proof.Body
public import proofs.«01_k».proof.Proof.Gen.KernelIdeal.Launch
public import proofs.«01_k».proof.Proof.Gen.KernelIdeal.Points

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at launch: the memory as given, every semaphore at zero. -/
def s₀ : MemSt nD τ sig (Elt F) := ⟨m, fun _ => 0, ρ⟩

/-- The `x` a device is given, as staged. -/
def xstg (c : Dev nD) : Vec F S256x512 .f32 := (win0_0.blk (0 : Fin 1)).view.read (Elt F) ((s₀ m ρ).mem ((c : Thread nD τ).loc main_arg0))
/-- The block of `W` a device is given, as staged. -/
def wstg (c : Dev nD) : Vec F S512x4096 .f32 := (win0_1.blk (0 : Fin 1)).view.read (Elt F) ((s₀ m ρ).mem ((c : Thread nD τ).loc main_arg1))

/-- What the devices send. -/
abbrev sent : Dev nD → HBuf F := sD (xstg m ρ) (wstg m ρ)

/-- What a device holds at its start besides its staging buffers: the schedule's records, its kits, its scratch buffers. -/
def start (c : Dev nD) : sProp 𝕄 := iprop((∃ K, records (sent m ρ) K) ∗ levAts L lv ∗ kits c)

/-- A device's four scratch buffers, whole, at any contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ ∃ f : Buf (Elt F) ((c : Thread nD τ).loc cc0_scratch3), ((c : Thread nD τ).loc cc0_scratch3) ↦{fullShare} f)

/-- Before the body. -/
def Φ₀ (c : Dev nD) : sProp 𝕄 := iprop(start m ρ c ∗ bufs c)
/-- After it: the buffers again and every cell at zero. -/
def Φ₁ (c : Dev nD) : sProp 𝕄 := iprop(bufs c ∗ semVal (barCell c) 0 ∗ bigSep Finset.univ fun k : Fin 6 => zeros c k)

/-- The call's data on a device. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outD (xstg m ρ) (wstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Whole buffers and their chunks -/

omit [FloatOps F] in
/-- A half-width buffer, held whole, is its six chunks. -/
theorem chunks_of (ℓ : Loc nD τ sig) (e : Idx ℓ = S256x2048.Idx) (C : Fin 6 → Finset (Idx ℓ)) (hC : ∀ k, HEq (C k) (cols k))
    (f : Buf (Elt F) ℓ) : (ℓ ↦{fullShare} f : sProp 𝕄) = bigSep Finset.univ fun k : Fin 6 => ℓ ↦[C k]{fullShare} f := by
  classical
  have hmem : ∀ i : Idx ℓ, ∃ k, i ∈ C k := by
    clear f
    generalize hT : Idx ℓ = T at e C hC
    subst e
    intro i
    have hi : i ∈ (Finset.univ : Finset (Fin 6)).biUnion cols := by rw [cols_univ]; exact Finset.mem_univ _
    obtain ⟨k, -, hk⟩ := Finset.mem_biUnion.mp hi
    exact ⟨k, by rw [eq_of_heq (hC k)]; exact hk⟩
  have hdis : ∀ j k, j ≠ k → Disjoint (C j) (C k) := by
    clear f hmem
    generalize hT : Idx ℓ = T at e C hC
    subst e
    intro j k h
    rw [eq_of_heq (hC k), eq_of_heq (hC j)]; exact cols_disjoint h
  have hu : (Finset.univ : Finset (Fin 6)).biUnion C = Finset.univ := by
    refine Finset.eq_univ_iff_forall.mpr fun i => ?_
    obtain ⟨k, hk⟩ := hmem i
    exact Finset.mem_biUnion.mpr ⟨k, Finset.mem_univ _, hk⟩
  rw [← hu]
  exact pointsTo_biUnion Finset.univ C fun j _ k _ h => hdis j k h

omit [FloatOps F] in
/-- The send buffer is its six chunks. -/
theorem chunks_s (c : Dev nD) (f : HBuf F) :
    ((((c : Thread nD τ).loc cc0_scratch1) ↦{fullShare} f : sProp 𝕄)) = bigSep Finset.univ fun k : Fin 6 => sPts c k f :=
  chunks_of ((c : Thread nD τ).loc cc0_scratch1) rfl cols (fun _ => HEq.rfl) f

omit [FloatOps F] in
/-- The first receiving buffer is its six chunks. -/
theorem chunks_ry (c : Dev nD) (f : HBuf F) :
    ((((c : Thread nD τ).loc cc0_scratch2) ↦{fullShare} f : sProp 𝕄)) = bigSep Finset.univ fun k : Fin 6 => ryPts c k fullShare f :=
  chunks_of ((c : Thread nD τ).loc cc0_scratch2) rfl cols (fun _ => HEq.rfl) f

omit [FloatOps F] in
/-- The second receiving buffer is its six chunks. -/
theorem chunks_rx (c : Dev nD) (f : HBuf F) :
    ((((c : Thread nD τ).loc cc0_scratch3) ↦{fullShare} f : sProp 𝕄)) = bigSep Finset.univ fun k : Fin 6 => rxPts c k f :=
  chunks_of ((c : Thread nD τ).loc cc0_scratch3) rfl cols (fun _ => HEq.rfl) f

omit [FloatOps F] in
/-- Chunks at one content are chunks at some contents. -/
theorem some_of {T : Type} (Φ : Fin 6 → T → sProp 𝕄) (f : T) :
    bigSep Finset.univ (fun k : Fin 6 => Φ k f) ⊢ bigSep Finset.univ fun k : Fin 6 => iprop(∃ g, Φ k g) :=
  bigSep_mono fun k _ => show (Φ k f : sProp 𝕄) ⊢ iprop(∃ g, Φ k g) from by iintro H; iexists f; iexact H

/-! ## The body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, held with the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the pipeline hands the body. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the body hands back. -/
def bodyPost (c : Dev nD) : sProp 𝕄 :=
  iprop(Φ₁ c ∗ (dats m ρ 0 c).owesAt () t0_0.succ ∗ stg c cc0_stg0_0 (xstg m ρ c) ∗ stg c cc0_stg1_0 (wstg m ρ c)
    ∗ stg c cc0_stg2_0 (outD (xstg m ρ) (wstg m ρ) c))

set_option maxRecDepth 4000 in
/-- The body takes what the pipeline hands it to what it is to hand back. -/
theorem body_sound (c : Dev nD) :
    bodyPre m ρ c ⊢ run c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
      (fun _ => bodyPost m ρ c) := by
  unfold bodyPre Φ₀ start bufs
  iintro ⟨⟨⟨⟨%K, HR⟩, Hlev, Hk⟩, ⟨%f0, Hl⟩, ⟨%f1, Hs⟩, ⟨%f2, Hry⟩, ⟨%f3, Hrx⟩⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  ihave Hs1 := (Entails.of_eq (chunks_s (F := F) c f1)) $$ Hs
  ihave Hry1 := (Entails.of_eq (chunks_ry (F := F) c f2)) $$ Hry
  ihave Hrx1 := (Entails.of_eq (chunks_rx (F := F) c f3)) $$ Hrx
  ihave Hs2 := (some_of (F := F) (fun k f => sPts c k f) f1) $$ Hs1
  ihave Hry2 := (some_of (F := F) (fun k f => ryPts c k fullShare f) f2) $$ Hry1
  ihave Hrx2 := (some_of (F := F) (fun k f => rxPts c k f) f3) $$ Hrx1
  iapply (run_body (xstg m ρ) (wstg m ρ) K c) $$ [HR Hlev HO Hk Hx Hw Hl Hout Hs2 Hry2 Hrx2]
  · isplitl [HR Hlev]
    · unfold recs; isplitl [HR]; · iexact HR
      iexact Hlev
    isplitl [HO]; · unfold ow; iexists W; iexact HO
    isplitl [Hk]; · iexact Hk
    isplitl [Hx]; · unfold xPts; iexact Hx
    isplitl [Hw]; · unfold wPts; iexact Hw
    isplitl [Hl]; · iexists f0; unfold lPts; iexact Hl
    isplitl [Hout]; · iexists g2; unfold oPts; iexact Hout
    isplitl [Hs2]; · iexact Hs2
    isplitl [Hry2]; · iexact Hry2
    iexact Hrx2
  iintro ⟨HO, Hz, Hzs, Hx, Hw, Hl, Hout, Hs, Hry, Hrx⟩
  unfold bodyPost Φ₁ bufs
  unfold Dat.owesAt Pipeline.owesWithin ow
  rw [show (dats m ρ 0 c).owed t0_0.succ = 0 from rfl]
  icases HO with ⟨%W', HO⟩
  ihave Hs1 := (Entails.of_eq (chunks_s (F := F) c _).symm) $$ Hs
  ihave Hry1 := (Entails.of_eq (chunks_ry (F := F) c _).symm) $$ Hry
  ihave Hrx1 := (Entails.of_eq (chunks_rx (F := F) c _).symm) $$ Hrx
  isplitl [Hl Hs1 Hry1 Hrx1 Hz Hzs]
  · isplitl [Hl Hs1 Hry1 Hrx1]
    · isplitl [Hl]; · unfold lPts; iexists _; iexact Hl
      isplitl [Hs1]; · iexists _; iexact Hs1
      isplitl [Hry1]; · iexists _; iexact Hry1
      iexists _; iexact Hrx1
    isplitl [Hz]; · iexact Hz
    iexact Hzs
  isplitl [HO]
  · iexists W'
    isplitr; · ipureintro; exact fun _ _ => Or.inl trivial
    iexact HO
  isplitl [Hx]
  · iexists _; isplitr; · (ipureintro; rfl)
    unfold xPts; iexact Hx
  isplitl [Hw]
  · iexists _; isplitr; · (ipureintro; rfl)
    unfold wPts; iexact Hw
  iexists _; isplitr; · (ipureintro; rfl)
  unfold oPts; iexact Hout

/-- The body depends on the staging buffers it is called with alone. -/
theorem body_at (a : Memref sig .tc .vmem S256x512 .f32) (ha) (b : Memref sig .tc .vmem S512x4096 .f32) (hb) (d : Memref sig .tc .vmem S256x8192 .f32) (hd)
    (ea : a = Memref.whole cc0_stg0_0) (eb : b = Memref.whole cc0_stg1_0) (ed : d = Memref.whole cc0_stg2_0) :
    cc0_body (F := F) a ha b hb d hd (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
      = cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 := by
  subst ea eb ed; rfl

set_option maxRecDepth 4000 in
/-- The pipeline's obligation for the body on each device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  refine BIBase.Entails.trans (Q := bodyPre m ρ c) ?_ (BIBase.Entails.trans (body_sound m ρ c) ?_)
  · unfold bodyPre
    exact BIBase.Entails.rfl
  · have hb : (defs₀ (F := F) Proc.tc 0 (t0_0, cfg0.slots t0_0)) = bodyAt0 (F := F) t0_0 := rfl
    rw [hb]
    unfold bodyAt0
    rw [body_at (win0_0.stage (cfg0.slots t0_0 0)) (hstage0_0 (0 : Fin 1)) (win0_1.stage (cfg0.slots t0_0 1)) (hstage0_1 (0 : Fin 1)) (win0_2.stage (cfg0.slots t0_0 2)) (hstage0_2 (0 : Fin 1)) rfl rfl rfl]
    generalize (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) = p
    unfold bodyPost
    exact BIBase.Entails.rfl

end Cert.SoftmaxProof

end
-- ==== Proof.Launch.lean ====
/-
The launch: the cells and duties of all the devices set up, dealt out, and the run of the whole program.
-/
module

public import proofs.«01_k».proof.Proof.Region
public import Idealize.ShloMosaic.Lib.Pipeline.CollectiveSegs

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- A cell of a device: the barrier's or one of the kernel's own. -/
abbrev Slot : Type := Option (Fin 4 × Fin 6)

/-! ## Conjunctions over the cells -/

omit [FloatOps F] in
/-- Over the cells of a device: the barrier's and the others. -/
theorem over_slots (Φ : Slot → sProp 𝕄) : bigSep Finset.univ Φ = iprop(Φ none ∗ bigSep Finset.univ fun p => Φ (some p)) := by
  have hu : (Finset.univ : Finset Slot) = insert none (Finset.univ.map Function.Embedding.some) := by
    ext o
    cases o with
    | none => simp
    | some p => simp
  rw [hu, bigSep_insert (by simp), bigSep_map]
  rfl

omit [FloatOps F] in
/-- Conjunction regrouped. -/
theorem regroup_sep (A B C : sProp 𝕄) : iprop((A ∗ B) ∗ C) = iprop(A ∗ B ∗ C) :=
  BI.equiv_iff.mp ⟨show (iprop((A ∗ B) ∗ C) : sProp 𝕄) ⊢ iprop(A ∗ B ∗ C) from by iintro ⟨⟨H1, H2⟩, H⟩; isplitl [H1]; (· iexact H1); isplitl [H2]; (· iexact H2); iexact H,
    show (iprop(A ∗ B ∗ C) : sProp 𝕄) ⊢ iprop((A ∗ B) ∗ C) from by iintro ⟨H1, H2, H⟩; isplitl [H1 H2]; (· isplitl [H1]; (· iexact H1); iexact H2); iexact H⟩

omit [FloatOps F] in
/-- Over four things. -/
theorem four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

omit [FloatOps F] in
/-- Over the kernel's own cells, family by family. -/
theorem over_own (Φ : Fin 4 × Fin 6 → sProp 𝕄) : bigSep Finset.univ Φ
    = iprop((bigSep Finset.univ fun k => Φ (0, k)) ∗ (bigSep Finset.univ fun k => Φ (1, k)) ∗ (bigSep Finset.univ fun k => Φ (2, k))
        ∗ bigSep Finset.univ fun k => Φ (3, k)) := by
  rw [bigSep_univ_prod, four]

/-! ## The cells and the duties -/

theorem own_facts : Pipeline.OwnSemFacts cfg0.spec osem := by decide

theorem cell_eq {c c' : Dev nD} {a a' : Fin 4} {k k' : Fin 6} (h : dCell c a k = dCell c' a' k') : c = c' ∧ a = a' ∧ k = k' := by
  have h1 : c = c' := congrArg (fun g : GSem nD τ sig => g.1.1) h
  have h2 : (SemLoc.dma (dq a k) : SemLoc sig) = .dma (dq a' k') := congrArg Prod.snd h
  have h3 : dq a k = dq a' k' := by injection h2
  exact ⟨h1, dq_inj h3⟩

theorem bar_eq {c c' : Dev nD} (h : barCell c = barCell c') : c = c' := congrArg (fun g : GSem nD τ sig => g.1.1) h

theorem bar_ne {c c' : Dev nD} {a : Fin 4} {k : Fin 6} : barCell c ≠ dCell c' a k := fun h => by
  have h2 : (SemLoc.reg barS : SemLoc sig) = .dma (dq a k) := congrArg Prod.snd h
  cases h2

theorem kcell_injective : Function.Injective kcell := by
  rintro ⟨c, o⟩ ⟨c', o'⟩ h
  cases o with
  | none =>
    cases o' with
    | none => exact Prod.ext (bar_eq h) rfl
    | some p => exact absurd h bar_ne
  | some p =>
    cases o' with
    | none => exact absurd h.symm bar_ne
    | some p' => obtain ⟨h1, h2, h3⟩ := cell_eq h; exact Prod.ext h1 (congrArg some (Prod.ext h2 h3))

/-- The cells of all devices. -/
def allCells : Finset (GSem nD τ sig) := Finset.univ.map ⟨kcell, kcell_injective⟩

/-- The duties of a device's cells: two at the barrier, one at each other. -/
abbrev dutyOf (cj : Dev nD × (Bool ⊕ (Fin 4 × Fin 6))) : GSem nD τ sig × ℕ × Bool :=
  match cj.2 with
  | .inl b => (barCell cj.1, 0, b)
  | .inr p => (dCell cj.1 p.1 p.2, 0, false)

theorem dutyOf_injective : Function.Injective dutyOf := by
  rintro ⟨c, j⟩ ⟨c', j'⟩ h
  have hg := congrArg (fun x : GSem nD τ sig × ℕ × Bool => x.1) h
  have hb := congrArg (fun x : GSem nD τ sig × ℕ × Bool => x.2.2) h
  cases j with
  | inl b =>
    cases j' with
    | inl b' => exact Prod.ext (bar_eq hg) (congrArg Sum.inl hb)
    | inr p => exact absurd hg bar_ne
  | inr p =>
    cases j' with
    | inl b' => exact absurd hg.symm bar_ne
    | inr p' => obtain ⟨h1, h2, h3⟩ := cell_eq hg; exact Prod.ext h1 (congrArg Sum.inr (Prod.ext h2 h3))

/-- The duties of all devices. -/
def allDuties : Finset (GSem nD τ sig × ℕ × Bool) := Finset.univ.map ⟨dutyOf, dutyOf_injective⟩

/-- The ghost state at launch: the pipeline's and the schedule's. -/
def u₀ : UU := (initOf (Pipeline.cells cfgs cellOf_inj) (Pipeline.launchToks cfgs cellOf_inj), initOf allCells allDuties)

/-- The duties of one family of a device's cells. -/
def fam (a : Fin 4) (c : Dev nD) : sProp 𝕄 := bigSep Finset.univ fun k : Fin 6 => dutyTok ER (dCell c a k) 0 false
/-- The duties of a device's own cells. -/
def toks (c : Dev nD) : sProp 𝕄 :=
  iprop(dutyTok ER (barCell c) 0 false ∗ dutyTok ER (barCell c) 0 true ∗ fam 0 c ∗ fam 1 c ∗ fam 2 c ∗ fam 3 c)
/-- The duties a device performs: those of its own send cells and of its neighbours' barrier and receive cells. -/
def payToks (c : Dev nD) : sProp 𝕄 :=
  iprop(dutyTok ER (barCell (py c)) 0 false ∗ dutyTok ER (barCell (px c)) 0 true ∗ fam 0 c ∗ fam 1 (py c) ∗ fam 2 c ∗ fam 3 (px c))
/-- A device's places at its own cells. -/
def places (c : Dev nD) : sProp 𝕄 := bigSep Finset.univ fun o : Slot => atPos ER (kcell (c, o)) 0 ∅ 0

omit [FloatOps F] in
/-- The neighbours along each axis, as a permutation of the devices. -/
def eqy : Dev nD ≃ Dev nD := ⟨py, py, py_py, py_py⟩
omit [FloatOps F] in
def eqx : Dev nD ≃ Dev nD := ⟨px, px, px_px, px_px⟩

omit [FloatOps F] in
/-- The duties go to the devices that perform them. -/
theorem toks_around : (bigSep Finset.univ fun c : Dev nD => (toks c : sProp 𝕄)) ⊢ bigSep Finset.univ fun c : Dev nD => payToks c := by
  unfold toks payToks
  simp only [bigSep_sep']
  rw [bigSep_univ_equiv eqy (fun c : Dev nD => (dutyTok ER (barCell c) 0 false : sProp 𝕄)),
    bigSep_univ_equiv eqx (fun c : Dev nD => (dutyTok ER (barCell c) 0 true : sProp 𝕄)),
    bigSep_univ_equiv eqy (fun c : Dev nD => (fam 1 c : sProp 𝕄)),
    bigSep_univ_equiv eqx (fun c : Dev nD => (fam 3 c : sProp 𝕄))]
  exact BIBase.Entails.rfl

variable (m : (ℓ : Loc nD τ sig) → Buf (Elt F) ℓ) (ρ : Dev nD → PrngReg)

/-- What the launch deals a device. -/
def G (c : Dev nD) : sProp 𝕄 :=
  iprop((bigSep Finset.univ fun o : Slot => roundState ER (sched (sent m ρ)) (kcell (c, o)) 0)
    ∗ (places c ∗ bigSep Finset.univ fun o : Slot => reached ER (kcell (c, o)) 0) ∗ toks c)

/-- What a device has once the cells of all are set up. -/
def G' (c : Dev nD) : sProp 𝕄 := iprop(∃ K, records (sent m ρ) K ∗ places c ∗ payToks c)

/-- The schedule's ghost state, dealt out. -/
theorem fund_all : BI.own (ER (initOf allCells allDuties)) ⊢ (|==> bigSep Finset.univ (G m ρ) : sProp 𝕄) := by
  have hX (Φ : GSem nD τ sig → sProp 𝕄) : bigSep allCells Φ = bigSep Finset.univ fun c : Dev nD => bigSep Finset.univ fun o : Slot => Φ (kcell (c, o)) := by
    unfold allCells; rw [bigSep_map, bigSep_univ_prod]; rfl
  have hT : bigSep allDuties (fun x => (dutyTok ER x.1 x.2.1 x.2.2 : sProp 𝕄)) = bigSep Finset.univ fun c : Dev nD => toks c := by
    unfold allDuties; rw [bigSep_map, bigSep_univ_prod]
    refine bigSep_congr fun c _ => ?_
    rw [BI.bigSep_univ_sum, over_own, bigSep_univ_eq_bigSepL [false, true] (by decide) (by decide), bigSepL_cons_cons, bigSepL_singleton]
    unfold toks fam
    exact regroup_sep _ _ _
  iintro HX
  imod (Rounds.fund ER (sched (sent m ρ)) allCells allDuties) $$ HX with ⟨Hst, Hr, Hat, Htok⟩
  imodintro
  ihave Hst' := (Entails.of_eq (hX fun g => roundState ER (sched (sent m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat']; · iexact Hat'
    iexact Hr'
  iexact Htok'

omit [FloatOps F] in
/-- The launch's one unscoped semaphore is the barrier's. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at zero, cell by cell. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun o : Slot => semVal (kcell (c, o)) 0 : sProp 𝕄) := by
  rw [unscoped_eq, over_slots]
  unfold Pipeline.ownSems0
  iintro ⟨HS, HB⟩
  isplitl [HB]; · iexact HB
  iexact HS

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : Slot => iprop(∃ κ : ℕ, cellInv ER (sched (sent m ρ)) κ (kcell (c, o))))
          ∗ (places c ∗ bigSep Finset.univ fun o : Slot => reached ER (kcell (c, o)) 0) ∗ toks c) := by
  unfold G
  iintro ⟨Hos, Hus, Hst, Hat, Htok⟩
  ihave Hv := (sems_eq (F := F) c) $$ [Hos Hus]
  · isplitl [Hos]; · iexact Hos
    iexact Hus
  imod (show iprop((bigSep Finset.univ fun o : Slot => semVal (kcell (c, o)) 0) ∗ bigSep Finset.univ fun o : Slot => roundState ER (sched (sent m ρ)) (kcell (c, o)) 0)
      ⊢ (|={Set.univ}=> bigSep Finset.univ fun o : Slot => iprop(∃ κ : ℕ, cellInv ER (sched (sent m ρ)) κ (kcell (c, o))) : sProp 𝕄) from by
        rw [← bigSep_sep']
        exact (bigSep_mono fun o _ => (Rounds.body_intro ER (sched (sent m ρ)) (kcell (c, o))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

omit [FloatOps F] in
/-- What is shared goes to every member of a conjunction. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' names gathered, the duties passed around. -/
theorem regroup :
    (bigSep Finset.univ fun c : Dev nD => iprop((bigSep Finset.univ fun o : Slot => iprop(∃ κ : ℕ, cellInv ER (sched (sent m ρ)) κ (kcell (c, o))))
          ∗ (places c ∗ bigSep Finset.univ fun o : Slot => reached ER (kcell (c, o)) 0) ∗ toks c) : sProp 𝕄)
      ⊢ bigSep Finset.univ (G' m ρ) := by
  rw [bigSep_sep', bigSep_sep', bigSep_sep',
    ← bigSep_univ_prod (fun p : Dev nD × Slot => iprop(∃ κ : ℕ, cellInv ER (sched (sent m ρ)) κ (kcell p))),
    ← bigSep_univ_prod (fun p : Dev nD × Slot => (reached ER (kcell p) 0 : sProp 𝕄))]
  iintro ⟨HI, ⟨Hat, #HR⟩, Htok⟩
  ihave HK := (BI.bigSep_exists_pi Finset.univ (fun (p : Dev nD × Slot) (κ : ℕ) => (cellInv ER (sched (sent m ρ)) κ (kcell p) : sProp 𝕄))) $$ HI
  icases HK with ⟨%K, #HI⟩
  ihave Htk := (toks_around (F := F)) $$ Htok
  iapply (share_out (R := records (sent m ρ) K) (Φ := fun c => iprop(places c ∗ payToks c)) fun c _ =>
    show iprop(records (sent m ρ) K ∗ places c ∗ payToks c) ⊢ G' m ρ c from by unfold G'; iintro H; iexists K; iexact H)
  isplitr
  · unfold records; isplitl; · iexact HI
    iexact HR
  · rw [bigSep_sep']
    isplitl [Hat]; · iexact Hat
    iexact Htk

/-- Every device's cells set up at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tally_d (c c' : Dev nD) (a a' : Fin 4) (k k' : Fin 6) (n : ℕ) :
    (tallyAt (dCell c a k) () n : CellTallies nD τ sig Unit) (dCell c' a' k') () = if c' = c ∧ a' = a ∧ k' = k then n else 0 := by
  rw [tallyAt_apply]
  by_cases h : c' = c ∧ a' = a ∧ k' = k
  · obtain ⟨rfl, rfl, rfl⟩ := h; rw [if_pos ⟨rfl, rfl⟩, if_pos ⟨rfl, rfl, rfl⟩]
  · rw [if_neg h, if_neg fun h' => h (cell_eq h'.1)]
theorem tally_bd (c c' : Dev nD) (a : Fin 4) (k : Fin 6) (n : ℕ) : (tallyAt (barCell c) () n : CellTallies nD τ sig Unit) (dCell c' a k) () = 0 := by
  rw [tallyAt_apply, if_neg fun h => bar_ne h.1.symm]
theorem tally_db (c c' : Dev nD) (a : Fin 4) (k : Fin 6) (n : ℕ) : (tallyAt (dCell c a k) () n : CellTallies nD τ sig Unit) (barCell c') () = 0 := by
  rw [tallyAt_apply, if_neg fun h => bar_ne h.1]
theorem tally_b (c c' : Dev nD) (n : ℕ) : (tallyAt (barCell c) () n : CellTallies nD τ sig Unit) (barCell c') () = if c' = c then n else 0 := by
  rw [tallyAt_apply]
  by_cases h : c' = c
  · subst h; rw [if_pos ⟨rfl, rfl⟩, if_pos rfl]
  · rw [if_neg h, if_neg fun h' => h (bar_eq h'.1)]

theorem py_iff (c d : Dev nD) : c = py d ↔ d = py c := ⟨fun h => by rw [h, py_py], fun h => by rw [h, py_py]⟩
theorem px_iff (c d : Dev nD) : c = px d ↔ d = px c := ⟨fun h => by rw [h, px_px], fun h => by rw [h, px_px]⟩

/-- What device `d` owes the barrier of `c`. -/
theorem owed_bar (d c : Dev nD) : O₀ d (barCell c) () = (if d = px c then 1 else 0) + (if d = py c then 1 else 0) := by
  simp only [O₀, O₁, oY, oX, Pi.add_apply, Finsupp.add_apply, tally_db, tally_b, Nat.zero_add, Pi.zero_apply, Finsupp.zero_apply, py_iff c d, px_iff c d]

/-- What device `d` owes the cell of chunk `k` of the `y` neighbour at `c`. -/
theorem owed_ry (d c : Dev nD) (k : Fin 6) : O₀ d (dCell c 1 k) () = if d = py c then Nk k else 0 := by
  have h13 : ¬ ((1 : Fin 4) = 3) := by decide
  simp only [O₀, O₁, oY, oX, Pi.add_apply, Finsupp.add_apply, tally_bd, tally_d, Nat.zero_add, Nat.add_zero, Pi.zero_apply, Finsupp.zero_apply, py_iff c d,
    h13, false_and, and_false, if_false, true_and]
  by_cases h : d = py c
  · simp only [h, true_and, if_true]
    fin_cases k <;> rfl
  · simp only [h, false_and, if_false]

/-- What device `d` owes the cell of forwarded chunk `k` at `c`. -/
theorem owed_rx (d c : Dev nD) (k : Fin 6) : O₀ d (dCell c 3 k) () = if d = px c then Nk k else 0 := by
  have h13 : ¬ ((3 : Fin 4) = 1) := by decide
  simp only [O₀, O₁, oY, oX, Pi.add_apply, Finsupp.add_apply, tally_bd, tally_d, Nat.zero_add, Nat.add_zero, Pi.zero_apply, Finsupp.zero_apply, px_iff c d,
    h13, false_and, and_false, if_false, true_and]
  by_cases h : d = px c
  · simp only [h, true_and, if_true]
    fin_cases k <;> rfl
  · simp only [h, false_and, if_false]

/-- A cell's launch credit is what the devices together owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem launch_bar (c : Dev nD) :
    tallyOn (barCell c) (launchCredit (Pipeline.owing O₀) 0 (barCell c)) = (tallyAt (barCell c) () 2 : CellTallies nD τ sig Unit) :=
  launch_at _ _ (by
    rw [Finset.sum_congr rfl fun d _ => owed_bar d c, Finset.sum_add_distrib, Finset.sum_ite_eq' Finset.univ (px c) fun _ => 1,
      Finset.sum_ite_eq' Finset.univ (py c) fun _ => 1, if_pos (Finset.mem_univ _), if_pos (Finset.mem_univ _)])

theorem launch_ry (c : Dev nD) (k : Fin 6) :
    tallyOn (dCell c 1 k) (launchCredit (Pipeline.owing O₀) 0 (dCell c 1 k)) = (tallyAt (dCell c 1 k) () (Nk k) : CellTallies nD τ sig Unit) :=
  launch_at _ _ (by
    rw [Finset.sum_congr rfl fun d _ => owed_ry d c k, Finset.sum_ite_eq' Finset.univ (py c) fun _ => Nk k, if_pos (Finset.mem_univ _)])

theorem launch_rx (c : Dev nD) (k : Fin 6) :
    tallyOn (dCell c 3 k) (launchCredit (Pipeline.owing O₀) 0 (dCell c 3 k)) = (tallyAt (dCell c 3 k) () (Nk k) : CellTallies nD τ sig Unit) :=
  launch_at _ _ (by
    rw [Finset.sum_congr rfl fun d _ => owed_rx d c k, Finset.sum_ite_eq' Finset.univ (px c) fun _ => Nk k, if_pos (Finset.mem_univ _)])

/-- The kernel's receive semaphores. -/
def recvSem (p : Fin 2 × Fin 6) : SemLoc sig := .dma (dq (if p.1 = 0 then 1 else 3) p.2)

theorem recvSem_injective : Function.Injective recvSem := by
  rintro ⟨b, k⟩ ⟨b', k'⟩ h
  have h3 : dq (if b = 0 then 1 else 3) k = dq (if b' = 0 then 1 else 3) k' := by unfold recvSem at h; injection h
  obtain ⟨h4, h5⟩ := dq_inj h3
  refine Prod.ext ?_ h5
  revert h4
  fin_cases b <;> fin_cases b' <;> simp

omit [FloatOps F] in
/-- The credit a device starts with: of its barrier and of each chunk it receives. -/
theorem creds (c : Dev nD) :
    (Pipeline.launchCred O₀ c : sProp 𝕄) ⊢ iprop(cred (tallyAt (barCell c) () 2) ∗ (bigSep Finset.univ fun k : Fin 6 => cr c 1 k)
      ∗ bigSep Finset.univ fun k : Fin 6 => cr c 3 k) := by
  unfold Pipeline.launchCred
  have hn : (SemLoc.reg barS : SemLoc sig) ∉ Finset.univ.map ⟨recvSem, recvSem_injective⟩ := by
    rw [Finset.mem_map]; rintro ⟨p, -, h⟩
    change recvSem p = _ at h
    unfold recvSem at h; cases h
  refine (bigSep_subset (t := insert (SemLoc.reg barS) (Finset.univ.map ⟨recvSem, recvSem_injective⟩)) (Finset.subset_univ _)).trans ?_
  rw [bigSep_insert hn, bigSep_map, bigSep_univ_prod, BI.bigSep_fin_two, launch_bar]
  have h1 : (bigSep Finset.univ fun k : Fin 6 => (cred (tallyOn (dCell c 1 k) (launchCredit (Pipeline.owing O₀) 0 (dCell c 1 k))) : sProp 𝕄))
      ⊢ bigSep Finset.univ fun k : Fin 6 => cr c 1 k :=
    bigSep_mono fun k _ => Entails.of_eq (congrArg (fun t => (cred t : sProp 𝕄)) (launch_ry c k))
  have h3 : (bigSep Finset.univ fun k : Fin 6 => (cred (tallyOn (dCell c 3 k) (launchCredit (Pipeline.owing O₀) 0 (dCell c 3 k))) : sProp 𝕄))
      ⊢ bigSep Finset.univ fun k : Fin 6 => cr c 3 k :=
    bigSep_mono fun k _ => Entails.of_eq (congrArg (fun t => (cred t : sProp 𝕄)) (launch_rx c k))
  exact sep_mono_right ((sep_mono_left h1).trans (sep_mono_right h3))

/-! ## The conditions of the launch -/

omit [FloatOps F] in
/-- A device's duties, places and credit, chunk by chunk. -/
theorem kits_intro (c : Dev nD) :
    iprop(places c ∗ payToks c ∗ cred (tallyAt (barCell c) () 2) ∗ (bigSep Finset.univ fun k : Fin 6 => cr c 1 k)
      ∗ bigSep Finset.univ fun k : Fin 6 => cr c 3 k) ⊢ (kits c : sProp 𝕄) := by
  unfold kits kit places payToks fam
  rw [over_slots, over_own]
  simp only [bigSep_sep']
  iintro ⟨⟨Hb, H0, H1, H2, H3⟩, ⟨Ty, Tx, T0, T1, T2, T3⟩, C, C1, C3⟩
  isplitl [Ty]; · iexact Ty
  isplitl [Tx]; · iexact Tx
  isplitl [C]; · iexact C
  isplitl [Hb]; · iexact Hb
  isplitl [T0]; · iexact T0
  isplitl [T1]; · iexact T1
  isplitl [T2]; · iexact T2
  isplitl [T3]; · iexact T3
  isplitl [C1]; · iexact C1
  isplitl [C3]; · iexact C3
  isplitl [H0]; · iexact H0
  isplitl [H1]; · iexact H1
  isplitl [H2]; · iexact H2
  iexact H3

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, ⟨%K, HR, Hpl, Htk⟩⟩
  ihave Hc := (creds (F := F) c) $$ Hcr
  ihave Hk := (kits_intro (F := F) c) $$ [Hpl Htk Hc]
  · isplitl [Hpl]; · iexact Hpl
    isplitl [Htk]; · iexact Htk
    iexact Hc
  imodintro
  unfold start
  isplitl
  · isplitl [HR]; · iexists K; iexact HR
    isplitl [Hlev]; · iexact Hlev
    iexact Hk
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

omit [FloatOps F] in
theorem zeros_eq (c : Dev nD) : (bigSep Finset.univ fun k : Fin 6 => (zeros c k : sProp 𝕄))
    ⊢ Pipeline.ownSems0 (Ix := Unit) (Name := ℕ) (U := UU) (Lvl := ℕ) (Val := Elt F) (τ := τ) osem c := by
  unfold Pipeline.ownSems0 zeros
  rw [over_own]
  simp only [bigSep_sep']
  exact BIBase.Entails.rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_eq]
  unfold Φ₁ bufs
  iintro ⟨Hr, HzB, Hz⟩
  isplitl [HzB]; · iexact HzB
  isplitl [Hz]; · iapply (zeros_eq (F := F) c); iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · exact mayWait_zero c _

/-! ## The run -/

/-- What a device's array of window `w` holds after the run. -/
def finalA (c : Dev nD) (w : Fin cfg0.W) : Buf (Elt F) ((cfg0.win w).arr.view.loc (c : Thread nD τ)) := (dats m ρ 0 c).arrAt w cfg0.N

set_option maxRecDepth 8000 in
/-- Started from any memory with every semaphore at zero, every run of the program ends, with the arrays as computed and every
semaphore at zero again. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.SoftmaxProof

end
-- ==== Proof.Frames.lean ====
/-
What the runs leave unchanged: the arguments, and every semaphore at zero.
-/
module

public import proofs.«01_k».proof.Defs
public import proofs.«01_k».proof.Proof.Launch
public import proofs.«01_k».proof.Proof.Gen.Kernel
public import proofs.«01_k».proof.Proof.Gen.Pre_finite_KernelIdeal

@[expose] public section

noncomputable section

namespace Cert.SoftmaxProof

open Cert.KernelIdeal Cert.KernelIdeal.Gen
open Idealize.ShloMosaic Idealize.ShloMosaic.TcCoe
open Idealize.SL.Sem

section
variable {F : FTy → Type} [FloatOps F] (m : (ℓ : Loc nD τ sig) → Buf (Elt F) ℓ) (ρ : Dev nD → PrngReg)

/-- The run leaves `x` as it was. -/
theorem final_x (c : Dev nD) : finalA m ρ c (0 : Fin 3) = m ((c : Thread nD τ).loc main_arg0) :=
  (dats (F := F) m ρ 0 c).arrAt_in (0 : Fin 3) rfl _

/-- The run leaves `W` as it was. -/
theorem final_w (c : Dev nD) : finalA m ρ c (1 : Fin 3) = m ((c : Thread nD τ).loc main_arg1) :=
  (dats (F := F) m ρ 0 c).arrAt_in (1 : Fin 3) rfl _

/-- The run ends with the arguments unchanged and every semaphore at zero. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (final_x m ρ c), (h.1 c (1 : Fin 3)).trans (final_w m ρ c)⟩, h.2⟩) (run_main m ρ)

end

section
variable {F : FTy → Type} [FloatOps F]

/-! ## The program and its idealization are one text -/

theorem same_main : Cert.Kernel.main (F := F) = Cert.KernelIdeal.main (F := F) := rfl
theorem same_body : Cert.Kernel.cc0_body (F := F) = Cert.KernelIdeal.cc0_body (F := F) := rfl
theorem same_table : Cert.Kernel.defs₀ (F := F) = Cert.KernelIdeal.defs₀ (F := F) := by
  unfold Cert.Kernel.defs₀ Cert.KernelIdeal.defs₀
  refine congrArg Defs.onTc (funext fun l => ?_)
  match l with
  | 0 =>
    funext x
    obtain ⟨t, s⟩ := x
    dsimp only
    rw [same_body]
theorem same_defs : Cert.Kernel.defs (F := F) = Cert.KernelIdeal.defs (F := F) := congrArg (Pipeline.defs _) same_table

end

/-- The kernel at machine floats. -/
theorem frame_kernel : Cert.quiescent_Kernel := fun m ρ _ => by
  rw [same_defs, same_main]
  exact run_frame (F := Bits) m ρ
/-- The kernel at the reals. -/
theorem frame_ideal : Cert.quiescent_KernelIdeal := fun m ρ _ => run_frame (F := Ideal) m ρ
/-- The same, of finite arguments. -/
theorem frame_ideal_finite : Cert.quiescent_KernelIdeal_pre_finite_KernelIdeal := fun m ρ _ => run_frame (F := Ideal) m ρ

end Cert.SoftmaxProof

end
-- ==== Proof.Result.lean ====
/-
The run's results: each device's result array ends holding the kernel's result from the launch memory's own arguments.
-/
module

public import proofs.«01_k».proof.Proof.Frames

@[expose] public section

noncomputable section

namespace Cert.SoftmaxProof

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ) (ρ : Dev nD → PrngReg)

/-- The `x` of each device's launch memory. -/
def xArg (c : Dev nD) : Vec F S256x512 .f32 := m ((c : Thread nD τ).loc main_arg0)
/-- The block of `W` of each device's launch memory. -/
def wArg (c : Dev nD) : Vec F S512x4096 .f32 := m ((c : Thread nD τ).loc main_arg1)

/-- The staged `x` is the launch memory's. -/
theorem xstg_eq : xstg m ρ = xArg m := by
  funext c
  unfold xstg xArg
  exact Memref.read_access_unit_zero (Elt F) main_arg0 (funext fun b => by fin_cases b <;> rfl) _ _

/-- The staged block of `W` is the launch memory's. -/
theorem wstg_eq : wstg m ρ = wArg m := by
  funext c
  unfold wstg wArg
  exact Memref.read_access_unit_zero (Elt F) main_arg1 (funext fun b => by fin_cases b <;> rfl) _ _

/-- The result array at the end is the kernel's result. -/
theorem final_out (c : Dev nD) : finalA m ρ c (2 : Fin 3) = outD (xArg m) (wArg m) c := by
  have hr := Memref.read_access_unit_zero (Elt F) main_v1 (off := fun b => win0_2.index (0 : Fin 1) b * main_v1.ty.shape.size b)
    (funext fun b => by fin_cases b <;> rfl) (fun b => by fin_cases b <;> decide) (finalA m ρ c (2 : Fin 3))
  have ho : (win0_2.blk (0 : Fin 1)).view.read (Elt F) (finalA m ρ c (2 : Fin 3)) = outD (xstg m ρ) (wstg m ρ) c := by
    have h := (dats m ρ 0 c).arrAt_succ (2 : Fin 3) t0_0
    rw [if_pos (flush0_2 t0_0)] at h
    exact (congrArg _ h).trans (View.read_write_univ _ _)
  rw [xstg_eq, wstg_eq] at ho
  exact hr.symm.trans ho

/-- The run ends with each device's result array at the kernel's result, the arguments unchanged. -/
theorem run_value : θ_run defs (onTc (τ := τ) (main (F := F))) ⟨m, fun _ => 0, ρ⟩
    (fun r => ∀ c : Dev nD, r.2.mem ((c : Thread nD τ).loc main_v1) = outD (xArg m) (wArg m) c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h.1 c (2 : Fin 3)).trans (final_out m ρ c), (h.1 c (0 : Fin 3)).trans (final_x m ρ c),
    (h.1 c (1 : Fin 3)).trans (final_w m ρ c)⟩) (run_main m ρ)

end Cert.SoftmaxProof

end
-- ==== Proof.RealLogits.lean ====
/-
The kernel's logits over the extended reals: with real inputs every logit is a real number, the sum of products of a row of
`x` with a column of the whole weight matrix, and the format a half is sent in changes nothing.
-/
module

public import proofs.«01_k».proof.Proof.Contents
public import Idealize.ShloMosaic.Lib.Pointwise

@[expose] public section

noncomputable section

namespace Cert.SoftmaxProof

open Cert.KernelIdeal Cert.KernelIdeal.Gen
open Idealize.ShloMosaic Idealize.ShloMosaic.TcCoe
open scoped BigOperators

/-- A row and a column written as an index in either of two ways. -/
theorem pair_eq {R n : ℕ} (r : Fin R) (c : Fin n) : Shape.pair (d := ![R, n]) r c = ix2 r c := by
  funext b; apply Fin.ext
  match b with
  | ⟨0, _⟩ => rfl
  | ⟨1, _⟩ => rfl

/-- A finite sum of real numbers is the same taken among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- The real logit of row `r` at column `j` of the whole weights (wrapping around past the last). -/
def logit (a : S256x512.Idx → ℝ) (b : (⟨2, ![512, 8192]⟩ : Shape).Idx → ℝ) (r : Fin 256) (j : ℕ) : ℝ :=
  ∑ k : Fin 512, a (ix2 r k) * b (ix2 k ⟨j % 8192, Nat.mod_lt _ (by decide)⟩)

/-- An entry of a product with 128 columns. -/
theorem bk128_at (x : Vec Ideal S256x512 .f32) (w : Vec Ideal S512x128 .f32) (r : Fin 256) (t : Fin 128) :
    bk128 x w (ix2 r t) = ∑ k : Fin 512, x (ix2 r k) * w (ix2 k t) := by
  pointwise [bk128]
/-- An entry of a product with 384 columns. -/
theorem bk384_at (x : Vec Ideal S256x512 .f32) (w : Vec Ideal S512x384 .f32) (r : Fin 256) (t : Fin 384) :
    bk384 x w (ix2 r t) = ∑ k : Fin 512, x (ix2 r k) * w (ix2 k t) := by
  pointwise [bk384]
/-- An entry of a product with 512 columns. -/
theorem bk512_at (x : Vec Ideal S256x512 .f32) (w : Vec Ideal S512x512 .f32) (r : Fin 256) (t : Fin 512) :
    bk512 x w (ix2 r t) = ∑ k : Fin 512, x (ix2 r k) * w (ix2 k t) := by
  pointwise [bk512]

section Device

variable (a : S256x512.Idx → ℝ) (b : (⟨2, ![512, 8192]⟩ : Shape).Idx → ℝ)
variable (x : Vec Ideal S256x512 .f32) (w : Vec Ideal S512x4096 .f32) (B : ℕ)

/-- One entry of a chunk's product: when `x` is real and `w` holds the real columns from `B` on. -/
theorem chunk_sum (hx : ∀ i, x i = (a i : EReal))
    (hw : ∀ (k : Fin 512) (j : Fin 4096), w (ix2 k j) = (b (ix2 k ⟨(B + j.val) % 8192, Nat.mod_lt _ (by decide)⟩) : EReal))
    (o v : ℕ) (r : Fin 256) (t : Fin v) (j : ℕ) (hj : o + t.val = j) (hj' : j < 4096) :
    ∑ k : Fin 512, x (ix2 r k) * (cut o v w) (ix2 k t) = (logit a b r (B + j) : EReal) := by
  unfold logit
  rw [coe_sum]
  refine Finset.sum_congr rfl fun k _ => ?_
  rw [EReal.coe_mul, hx]
  have e : cut o v w (ix2 k t) = w (ix2 k ⟨j, hj'⟩) := by
    refine entry_eq w _ _ rfl ?_
    show (o + t.val) % 4096 = j
    rw [hj, Nat.mod_eq_of_lt hj']
  rw [e, hw]

/-- Every logit of a device is the real logit of its column of the whole weights. -/
theorem lg_at (hx : ∀ i, x i = (a i : EReal))
    (hw : ∀ (k : Fin 512) (j : Fin 4096), w (ix2 k j) = (b (ix2 k ⟨(B + j.val) % 8192, Nat.mod_lt _ (by decide)⟩) : EReal))
    (r : Fin 256) (j : Fin 4096) : lg x w (ix2 r j) = (logit a b r (B + j.val) : EReal) := by
  have hj := j.isLt
  have hm : j.val % 2048 < 2048 := Nat.mod_lt _ (by decide)
  have hq : j.val = 2048 * (j.val / 2048) + j.val % 2048 := by omega
  have go : ∀ o n : ℕ, o ≤ j.val % 2048 → j.val % 2048 < o + n → n ≤ 512 →
      2048 * (j.val / 2048) + o + (j.val % 2048 - o) % n = j.val := by
    intro o n h1 h2 h3
    rw [Nat.mod_eq_of_lt (by omega)]
    omega
  show lgAt x w r (2048 * (j.val / 2048)) (j.val % 2048) = _
  unfold lgAt
  split_ifs with h0 h1 h2 h3 h4
  · exact (congrArg _ (pair_eq (n := 128) r _)).trans ((bk128_at _ _ _ _).trans (chunk_sum a b x w B hx hw _ _ r _ j.val (go 0 128 (by omega) (by omega) (by decide)) hj))
  · exact (congrArg _ (pair_eq (n := 384) r _)).trans ((bk384_at _ _ _ _).trans (chunk_sum a b x w B hx hw _ _ r _ j.val (go 128 384 (by omega) (by omega) (by decide)) hj))
  · exact (congrArg _ (pair_eq (n := 512) r _)).trans ((bk512_at _ _ _ _).trans (chunk_sum a b x w B hx hw _ _ r _ j.val (go 512 512 (by omega) (by omega) (by decide)) hj))
  · exact (congrArg _ (pair_eq (n := 512) r _)).trans ((bk512_at _ _ _ _).trans (chunk_sum a b x w B hx hw _ _ r _ j.val (go 1024 512 (by omega) (by omega) (by decide)) hj))
  · exact (congrArg _ (pair_eq (n := 384) r _)).trans ((bk384_at _ _ _ _).trans (chunk_sum a b x w B hx hw _ _ r _ j.val (go 1536 384 (by omega) (by omega) (by decide)) hj))
  · exact (congrArg _ (pair_eq (n := 128) r _)).trans ((bk128_at _ _ _ _).trans (chunk_sum a b x w B hx hw _ _ r _ j.val (go 1920 128 (by omega) (by omega) (by decide)) hj))

end Device

section All

variable (a : S256x512.Idx → ℝ) (b : (⟨2, ![512, 8192]⟩ : Shape).Idx → ℝ)
variable (X : Dev nD → Vec Ideal S256x512 .f32) (W : Dev nD → Vec Ideal S512x4096 .f32)

/-- What the inputs are: the same real `x` on every device, and on a device the half of the real weights its `y`
    coordinate names. -/
structure Inputs : Prop where
  x : ∀ c i, X c i = (a i : EReal)
  w : ∀ c (k : Fin 512) (j : Fin 4096),
    W c (ix2 k j) = (b (ix2 k ⟨(4096 * (c.val % 2) + j.val) % 8192, Nat.mod_lt _ (by decide)⟩) : EReal)

variable {a b X W} (H : Inputs a b X W)
include H

/-- A device's logits. -/
theorem lgD_at (c : Dev nD) (r : Fin 256) (j : Fin 4096) :
    lgD X W c (ix2 r j) = (logit a b r (4096 * (c.val % 2) + j.val) : EReal) :=
  lg_at a b (X c) (W c) _ (H.x c) (H.w c) r j

/-- The half a device sends. -/
theorem sD_at (c : Dev nD) (r : Fin 256) (j : Fin 2048) :
    sD X W c (ix2 r j) = (logit a b r (4096 * (c.val % 2) + 2048 * (c.val / 2) + j.val) : EReal) := by
  have hj := j.isLt
  have hc : c.val < 4 := c.isLt
  have e : sD X W c (ix2 r j) = lgD X W c (ix2 r ⟨2048 * (c.val / 2) + j.val, by omega⟩) := by
    show lgD X W c _ = _
    refine entry_eq (lgD X W c) _ _ rfl ?_
    show (2048 * (c.val / 2) + j.val) % 4096 = 2048 * (c.val / 2) + j.val
    rw [Nat.mod_eq_of_lt (by omega)]
  rw [e, lgD_at H]
  congr 2
  show 4096 * (c.val % 2) + (2048 * (c.val / 2) + j.val) = _
  omega

end All

end Cert.SoftmaxProof

end
-- ==== Proof.RealInputs.lean ====
/-
The precondition read: where it holds, every entry of `x` and of every device's block of `W` is a real number; and a
device's block of `W` as columns of the whole.
-/
module

public import proofs.«01_k».proof.Proof.RealLogits
public import proofs.«01_k».proof.Proof.Gen.Pre_finite_KernelIdeal
public import Idealize.ShloMosaic.Lib.ReduceAll
public import Idealize.ShloMosaic.Lib.Layout

@[expose] public section

noncomputable section

namespace Cert.SoftmaxProof

open Idealize.ShloMosaic Idealize.ShloMosaic.TcCoe

/-- The pattern of plus infinity. -/
theorem ofBits_pos_inf : Ideal.ofBits .f32 0x7F800000#32 = ⊤ := by simp [Ideal.ofBits, Ideal.ieee]

/-- An extended real whose absolute value is below plus infinity is a real number. -/
theorem real_of_abs (v : EReal) (h : max v (-v) < ⊤) : v = (v.toReal : EReal) := by
  refine (EReal.coe_toReal ?_ ?_).symm
  · rintro rfl
    exact absurd h (by simp)
  · rintro rfl
    exact absurd h (by simp)

/-- The comparison the precondition makes at an entry, answered yes. -/
theorem real_of_cmp (v : EReal) (h : Ideal.cmp .olt (max v (-v)) ⊤ = 1#1) : v = (v.toReal : EReal) := by
  refine real_of_abs v ?_
  by_contra hn
  have e : Ideal.cmp .olt (max v (-v)) ⊤ = 0#1 := by
    unfold Ideal.cmp
    rw [decide_eq_false hn]
    rfl
  rw [e] at h
  exact absurd h (by decide)

section Pre

open Cert.Pre_finite_KernelIdeal Cert.Pre_finite_KernelIdeal.Gen

/-- The precondition makes every entry real. -/
theorem pre_real (x : FVec Ideal S256x512 .f32) (w : FVec Ideal S512x4096 .f32)
    (h : Cert.Pre_finite_KernelIdeal.fn (F := Ideal) x w = fun _ => 1#1) :
    (∀ i, x i = ((x i).toReal : EReal)) ∧ ∀ i, w i = ((w i).toReal : EReal) := by
  haveI : Subsingleton S_.Idx := ⟨fun p q => funext fun b => b.elim0⟩
  have h0 := congrFun h ix0
  dsimp only [Cert.Pre_finite_KernelIdeal.fn] at h0
  obtain ⟨hx, hw⟩ := IntOp.andi_eq_one.1 (show IntOp.andi _ _ = 1#1 from h0)
  refine ⟨fun i => real_of_cmp _ ?_, fun i => real_of_cmp _ ?_⟩
  · have := Host.reduce_andi_all _ _ _ _ _ hx i
    rw [← ofBits_pos_inf]
    exact this
  · have := Host.reduce_andi_all _ _ _ _ _ hw i
    rw [← ofBits_pos_inf]
    exact this

end Pre

section Block

open Cert.KernelIdeal

/-- A device's block of a matrix 8192 columns wide: the columns its `y` coordinate names. -/
theorem block_at (v : (⟨2, ![512, 8192]⟩ : Shape).Idx → EReal) (c : Dev nD) (k : Fin 512) (j : Fin 4096) :
    (Layout.blockN ⟨2, ![512, 4096]⟩ ⟨2, ![512, 8192]⟩ (Layout.meshBlock [2, 2] ![[], [1]] c) v :
        (⟨2, ![512, 4096]⟩ : Shape).Idx → EReal) (ix2 k j)
      = v (ix2 k ⟨(4096 * (c.val % 2) + j.val) % 8192, Nat.mod_lt _ (by decide)⟩) := by
  have hj := j.isLt
  refine entry_eq v _ _ ?_ ?_
  · show 0 * 512 + k.val = k.val
    omega
  · show (c.val / 1 % 2 * 1 + 0) * 4096 + j.val = (4096 * (c.val % 2) + j.val) % 8192
    omega

end Block

end Cert.SoftmaxProof

end
-- ==== Proof.RealSums.lean ====
/-
The kernel's exponentials, row sums and result over the extended reals: the exponentials of the real logits, their sum over
a whole row, and the quotient.
-/
module

public import proofs.«01_k».proof.Proof.RealLogits

@[expose] public section

noncomputable section

namespace Cert.SoftmaxProof

open Cert.KernelIdeal Cert.KernelIdeal.Gen
open Idealize.ShloMosaic Idealize.ShloMosaic.TcCoe
open scoped BigOperators

/-! ## The kernel's row sums at an entry -/

/-- The row sums begin at zero. -/
theorem pay23_at (r : Fin 256) : (k0_pay23 : FVec Ideal S256x1 .f32) (ix2 r 0) = 0 := by
  pointwise [k0_pay23]
/-- This step adds a chunk's exponentials to the row sums. -/
theorem pay26_at (s : FVec Ideal S256x1 .f32) (v : Vec Ideal S256x128 .bf16) (r : Fin 256) :
    k0_pay26 s v (ix2 r 0) = s (ix2 r 0) + ∑ k : Fin 128, Ideal.exp (v (ix2 r k)) := by
  pointwise [k0_pay26, k0_pay25]
/-- This step adds a chunk's exponentials to the row sums. -/
theorem pay29_at (s : FVec Ideal S256x1 .f32) (v : Vec Ideal S256x384 .bf16) (r : Fin 256) :
    k0_pay29 s v (ix2 r 0) = s (ix2 r 0) + ∑ k : Fin 384, Ideal.exp (v (ix2 r k)) := by
  pointwise [k0_pay29, k0_pay28]
/-- This step adds the exponentials of a chunk of each received half. -/
theorem pay33_at (s : FVec Ideal S256x1 .f32) (u : Vec Ideal S256x512 .bf16) (v : Vec Ideal S256x128 .bf16) (r : Fin 256) :
    k0_pay33 s (k0_pay31 u) v (ix2 r 0)
      = s (ix2 r 0) + ∑ k : Fin 512, Ideal.exp (u (ix2 r k)) + ∑ k : Fin 128, Ideal.exp (v (ix2 r k)) := by
  pointwise [k0_pay33, k0_pay31, k0_pay32]
/-- This step adds a chunk's exponentials to the row sums. -/
theorem pay36_at (s : FVec Ideal S256x1 .f32) (v : Vec Ideal S256x512 .bf16) (r : Fin 256) :
    k0_pay36 s v (ix2 r 0) = s (ix2 r 0) + ∑ k : Fin 512, Ideal.exp (v (ix2 r k)) := by
  pointwise [k0_pay36, k0_pay35]
/-- This step adds a chunk's exponentials to the row sums. -/
theorem pay38_at (s : FVec Ideal S256x1 .f32) (v : Vec Ideal S256x384 .bf16) (r : Fin 256) :
    k0_pay38 s v (ix2 r 0) = s (ix2 r 0) + ∑ k : Fin 384, Ideal.exp (v (ix2 r k)) := by
  pointwise [k0_pay38, k0_pay37]
/-- This step adds a chunk's exponentials to the row sums. -/
theorem pay41_at (s : FVec Ideal S256x1 .f32) (v : Vec Ideal S256x384 .bf16) (r : Fin 256) :
    k0_pay41 s v (ix2 r 0) = s (ix2 r 0) + ∑ k : Fin 384, Ideal.exp (v (ix2 r k)) := by
  pointwise [k0_pay41, k0_pay40]
/-- This step adds a chunk's exponentials to the row sums. -/
theorem pay43_at (s : FVec Ideal S256x1 .f32) (v : Vec Ideal S256x512 .bf16) (r : Fin 256) :
    k0_pay43 s v (ix2 r 0) = s (ix2 r 0) + ∑ k : Fin 512, Ideal.exp (v (ix2 r k)) := by
  pointwise [k0_pay43, k0_pay42]
/-- This step adds a chunk's exponentials to the row sums. -/
theorem pay47_at (s : FVec Ideal S256x1 .f32) (v : Vec Ideal S256x128 .bf16) (r : Fin 256) :
    k0_pay47 s v (ix2 r 0) = s (ix2 r 0) + ∑ k : Fin 128, Ideal.exp (v (ix2 r k)) := by
  pointwise [k0_pay47, k0_pay46]
/-- This step adds the exponentials of a forwarded chunk, of all the device's own logits, and of another forwarded chunk. -/
theorem pay52_at (s : FVec Ideal S256x1 .f32) (u : Vec Ideal S256x512 .bf16) (l : Vec Ideal S256x4096 .f32)
    (v : Vec Ideal S256x384 .bf16) (r : Fin 256) :
    k0_pay52 s (k0_pay49 u) l v (ix2 r 0)
      = s (ix2 r 0) + ∑ k : Fin 512, Ideal.exp (u (ix2 r k)) + ∑ k : Fin 4096, Ideal.exp (l (ix2 r k))
        + ∑ k : Fin 384, Ideal.exp (v (ix2 r k)) := by
  pointwise [k0_pay52, k0_pay49, k0_pay48, k0_pay50, k0_pay51]
/-- The last step: each exponential times the reciprocal of its row's sum, the last chunk added. -/
theorem pay54_at (s : FVec Ideal S256x1 .f32) (v : Vec Ideal S256x128 .bf16) (e : Vec Ideal S256x8192 .f32) (r : Fin 256)
    (j : Fin 8192) :
    k0_pay54 s v e (ix2 r j)
      = e (ix2 r j) * Ideal.div 1 (s (ix2 r 0) + ∑ k : Fin 128, Ideal.exp (v (ix2 r k))) := by
  pointwise [k0_pay54, k0_pay53]

/-- The exponentials of `n` real logits, summed among the extended reals. -/
theorem exp_sum (n : ℕ) (u : Fin n → EReal) (g : ℕ → ℝ) (h : ∀ t, u t = (g t.val : EReal)) :
    ∑ t : Fin n, Ideal.exp (u t) = ((∑ t ∈ Finset.range n, Real.exp (g t) : ℝ) : EReal) := by
  rw [← Fin.sum_univ_eq_sum_range (fun t => Real.exp (g t)) n, coe_sum]
  exact Finset.sum_congr rfl fun t _ => by rw [h t]; rfl

section All

variable {a : S256x512.Idx → ℝ} {b : (⟨2, ![512, 8192]⟩ : Shape).Idx → ℝ}
variable {X : Dev nD → Vec Ideal S256x512 .f32} {W : Dev nD → Vec Ideal S512x4096 .f32} (H : Inputs a b X W)

/-- The exponentials of `n` logits of row `r` from column `o` on. -/
def part (a : S256x512.Idx → ℝ) (b : (⟨2, ![512, 8192]⟩ : Shape).Idx → ℝ) (r : Fin 256) (o n : ℕ) : ℝ :=
  ∑ t ∈ Finset.range n, Real.exp (logit a b r (o + t))

/-- Neighbouring parts together are one part. -/
theorem part_add (r : Fin 256) (o n m : ℕ) : part a b r o n + part a b r (o + n) m = part a b r o (n + m) := by
  unfold part
  rw [Finset.sum_range_add]
  simp only [Nat.add_assoc]

/-- A row's exponentials have a positive sum. -/
theorem part_pos (r : Fin 256) (o n : ℕ) (hn : 0 < n) : 0 < part a b r o n :=
  Finset.sum_pos (fun t _ => Real.exp_pos _) ⟨0, Finset.mem_range.mpr hn⟩

/-- The first column of the half a device takes from its `y` neighbour. -/
def yFrom (c : Dev nD) : ℕ := 4096 * (1 - c.val % 2) + 2048 * (c.val / 2)
/-- The first column of the half its `x` neighbour forwards. -/
def xFrom (c : Dev nD) : ℕ := 4096 * (1 - c.val % 2) + 2048 * (1 - c.val / 2)

include H

/-- The half the `y` neighbour sends. -/
theorem sD_py (c : Dev nD) (r : Fin 256) (j : Fin 2048) :
    sD X W (py c) (ix2 r j) = (logit a b r (yFrom c + j.val) : EReal) := by
  rw [sD_at H]
  congr 3
  revert c; decide

/-- The half the `x` neighbour forwards. -/
theorem sD_pyx (c : Dev nD) (r : Fin 256) (j : Fin 2048) :
    sD X W (py (px c)) (ix2 r j) = (logit a b r (xFrom c + j.val) : EReal) := by
  rw [sD_at H]
  congr 3
  revert c; decide

/-- The exponentials of a chunk of the `y` neighbour's half, summed over a row. -/
theorem ry_sum (c : Dev nD) (o n : ℕ) (h : o + n ≤ 2048) (r : Fin 256) :
    ∑ t : Fin n, Ideal.exp ((ryD X W c o n : (⟨2, ![256, n]⟩ : Shape).Idx → EReal) (ix2 r t)) = (part a b r (yFrom c + o) n : EReal) := by
  refine exp_sum n _ (fun t => logit a b r (yFrom c + o + t)) fun t => ?_
  have ht := t.isLt
  have e : (ryD X W c o n : (⟨2, ![256, n]⟩ : Shape).Idx → EReal) (ix2 r t) = sD X W (py c) (ix2 r ⟨o + t.val, by omega⟩) := by
    refine entry_eq (sD X W (py c)) _ _ rfl ?_
    show (o + t.val) % 2048 = o + t.val
    exact Nat.mod_eq_of_lt (by omega)
  rw [e, sD_py H, Nat.add_assoc]

/-- The exponentials of a chunk of the forwarded half, summed over a row. -/
theorem rx_sum (c : Dev nD) (o n : ℕ) (h : o + n ≤ 2048) (r : Fin 256) :
    ∑ t : Fin n, Ideal.exp ((rxD X W c o n : (⟨2, ![256, n]⟩ : Shape).Idx → EReal) (ix2 r t)) = (part a b r (xFrom c + o) n : EReal) := by
  refine exp_sum n _ (fun t => logit a b r (xFrom c + o + t)) fun t => ?_
  have ht := t.isLt
  have e : (rxD X W c o n : (⟨2, ![256, n]⟩ : Shape).Idx → EReal) (ix2 r t) = sD X W (py (px c)) (ix2 r ⟨o + t.val, by omega⟩) := by
    refine entry_eq (sD X W (py (px c))) _ _ rfl ?_
    show (o + t.val) % 2048 = o + t.val
    exact Nat.mod_eq_of_lt (by omega)
  rw [e, sD_pyx H, Nat.add_assoc]

/-- The exponentials of a device's own logits, summed over a row. -/
theorem own_sum (c : Dev nD) (r : Fin 256) :
    ∑ t : Fin 4096, Ideal.exp (lgD X W c (ix2 r t)) = (part a b r (4096 * (c.val % 2)) 4096 : EReal) :=
  exp_sum 4096 _ (fun t => logit a b r (4096 * (c.val % 2) + t)) fun t => lgD_at H c r t

/-- The gathered exponentials: on every device, of all the logits. -/
theorem exD_at (c : Dev nD) (r : Fin 256) (j : Fin 8192) :
    exD X W c (ix2 r j) = (Real.exp (logit a b r j.val) : EReal) := by
  have hj := j.isLt
  have hc : c.val < 4 := c.isLt
  have e1 : j.val / 4096 = c.val % 2 → 4096 * (c.val % 2) + j.val % 4096 = j.val := by intro h; omega
  have e2 : ¬ j.val / 4096 = c.val % 2 → j.val % 4096 / 2048 = c.val / 2 → yFrom c + j.val % 2048 = j.val := by
    intro h h'; unfold yFrom; omega
  have e3 : ¬ j.val / 4096 = c.val % 2 → ¬ j.val % 4096 / 2048 = c.val / 2 → xFrom c + j.val % 2048 = j.val := by
    intro h h'; unfold xFrom; omega
  show (if j.val / 4096 = c.val % 2 then _ else if j.val % 4096 / 2048 = c.val / 2 then _ else _) = _
  split_ifs with h1 h2
  · exact congrArg Ideal.exp ((congrArg (lgD X W c) (pair_eq (n := 4096) r ⟨j.val % 4096, Nat.mod_lt _ (by decide)⟩)).trans
      ((lgD_at H c r _).trans (congrArg (fun n => (logit a b r n : EReal)) (e1 h1))))
  · exact congrArg Ideal.exp ((congrArg (sD X W (py c)) (pair_eq (n := 2048) r ⟨j.val % 2048, Nat.mod_lt _ (by decide)⟩)).trans
      ((sD_py H c r _).trans (congrArg (fun n => (logit a b r n : EReal)) (e2 h1 h2))))
  · exact congrArg Ideal.exp ((congrArg (sD X W (py (px c))) (pair_eq (n := 2048) r ⟨j.val % 2048, Nat.mod_lt _ (by decide)⟩)).trans
      ((sD_pyx H c r _).trans (congrArg (fun n => (logit a b r n : EReal)) (e3 h1 h2))))

/-- The kernel's row sum, last piece included, is the sum of a whole row's exponentials. -/
theorem total_at (c : Dev nD) (r : Fin 256) :
    sum9 X W c (ix2 r 0) + ∑ t : Fin 128, Ideal.exp ((rxD X W c 1920 128 : (⟨2, ![256, 128]⟩ : Shape).Idx → EReal) (ix2 r t))
      = (part a b r 0 8192 : EReal) := by
  have hc : c.val < 4 := c.isLt
  unfold sum9 sum8 sum7 sum6 sum5 sum4 sum3 sum2 sum1
  rw [pay52_at, pay47_at, pay43_at, pay41_at, pay38_at, pay36_at, pay33_at, pay29_at, pay26_at, pay23_at]
  rw [ry_sum H c 0 128 (by decide), ry_sum H c 128 384 (by decide), ry_sum H c 512 512 (by decide), ry_sum H c 1024 512 (by decide),
    ry_sum H c 1536 384 (by decide), ry_sum H c 1920 128 (by decide), rx_sum H c 0 128 (by decide), rx_sum H c 128 384 (by decide),
    rx_sum H c 512 512 (by decide), rx_sum H c 1024 512 (by decide), rx_sum H c 1536 384 (by decide),
    rx_sum H c 1920 128 (by decide), own_sum H c]
  rw [zero_add]
  simp only [← EReal.coe_add]
  refine congrArg Real.toEReal ?_
  have ey : part a b r (yFrom c) 2048 = part a b r (yFrom c + 0) 128 + part a b r (yFrom c + 128) 384 + part a b r (yFrom c + 512) 512
      + part a b r (yFrom c + 1024) 512 + part a b r (yFrom c + 1536) 384 + part a b r (yFrom c + 1920) 128 := by
    have p1 := part_add (a := a) (b := b) r (yFrom c) 128 384
    have p2 := part_add (a := a) (b := b) r (yFrom c) 512 512
    have p3 := part_add (a := a) (b := b) r (yFrom c) 1024 512
    have p4 := part_add (a := a) (b := b) r (yFrom c) 1536 384
    have p5 := part_add (a := a) (b := b) r (yFrom c) 1920 128
    simp only [Nat.reduceAdd] at p1 p2 p3 p4 p5
    rw [Nat.add_zero, p1, p2, p3, p4, p5]
  have ex : part a b r (xFrom c) 2048 = part a b r (xFrom c + 0) 128 + part a b r (xFrom c + 128) 384 + part a b r (xFrom c + 512) 512
      + part a b r (xFrom c + 1024) 512 + part a b r (xFrom c + 1536) 384 + part a b r (xFrom c + 1920) 128 := by
    have p1 := part_add (a := a) (b := b) r (xFrom c) 128 384
    have p2 := part_add (a := a) (b := b) r (xFrom c) 512 512
    have p3 := part_add (a := a) (b := b) r (xFrom c) 1024 512
    have p4 := part_add (a := a) (b := b) r (xFrom c) 1536 384
    have p5 := part_add (a := a) (b := b) r (xFrom c) 1920 128
    simp only [Nat.reduceAdd] at p1 p2 p3 p4 p5
    rw [Nat.add_zero, p1, p2, p3, p4, p5]
  have q1 := part_add (a := a) (b := b) r 0 2048 2048
  have q2 := part_add (a := a) (b := b) r 4096 2048 2048
  have q3 := part_add (a := a) (b := b) r 0 4096 4096
  simp only [Nat.reduceAdd, Nat.zero_add] at q1 q2 q3
  have all : part a b r (4096 * (c.val % 2)) 4096 + part a b r (yFrom c) 2048 + part a b r (xFrom c) 2048 = part a b r 0 8192 := by
    have hcs : c.val = 0 ∨ c.val = 1 ∨ c.val = 2 ∨ c.val = 3 := by omega
    rcases hcs with h | h | h | h <;> simp only [yFrom, xFrom, h] <;> norm_num <;> linarith
  rw [← all, ey, ex]
  ring

/-- The kernel's result: on every device, each exponential over its row's sum. -/
theorem outD_at (c : Dev nD) (r : Fin 256) (j : Fin 8192) :
    outD X W c (ix2 r j) = ((Real.exp (logit a b r j.val) / part a b r 0 8192 : ℝ) : EReal) := by
  have hp : part a b r 0 8192 ≠ 0 := (part_pos r 0 8192 (by decide)).ne'
  unfold outD
  rw [pay54_at, total_at H, exD_at H, Ideal.div_coe hp, one_mul, ← EReal.coe_mul, mul_one_div]

end All

end Cert.SoftmaxProof

end
-- ==== Proof.RealReference.lean ====
/-
The reference over the extended reals: with real inputs it is each exponential over its row's sum, whatever real number the
row's maximum is.
-/
module

public import proofs.«01_k».proof.Proof.RealSums
public import proofs.«01_k».proof.Proof.Gen.ReferenceIdeal

@[expose] public section

noncomputable section

namespace Cert.SoftmaxProof

open Idealize.ShloMosaic Idealize.ShloMosaic.TcCoe
open scoped BigOperators

/-- The pattern of minus infinity. -/
theorem ofBits_neg_inf : Ideal.ofBits .f32 0xFF800000#32 = ⊥ := by simp [Ideal.ofBits, Ideal.ieee]

/-- The maximum of finitely many real numbers, begun at minus infinity, is a real number unless there are none. -/
theorem fold_max_real {ι : Type} (s : Finset ι) (f : ι → ℝ) :
    s = ∅ ∨ ∃ M : ℝ, s.fold max (⊥ : EReal) (fun k => (f k : EReal)) = (M : EReal) := by
  classical
  induction s using Finset.induction_on with
  | empty => exact Or.inl rfl
  | insert i s hi ih =>
    refine Or.inr ?_
    rw [Finset.fold_insert hi]
    rcases ih with rfl | ⟨M, hM⟩
    · exact ⟨f i, by rw [Finset.fold_empty, max_bot_right]⟩
    · exact ⟨max (f i) M, by rw [hM]; exact (EReal.coe_strictMono.monotone.map_max).symm⟩

section Term

open Cert.ReferenceIdeal Cert.ReferenceIdeal.Gen

/-- The reference's logits. -/
def refDot (x : FVec Ideal S256x512 .f32) (w : FVec Ideal S512x8192 .f32) : FVec Ideal S256x8192 .f32 :=
  Host.dotGeneral dot_S256x512_S512x8192_S256x8192_1_0_0_1_n_n none x w
/-- The row maxima of its logits. -/
def refMax (d : FVec Ideal S256x8192 .f32) : FVec Ideal S256 .f32 :=
  Host.reduce FloatOps.maximumf d (constant S_ .f32 0xFF800000#32) reducesTo_S256x8192_S256_d1 h_S_
/-- A number for each row, spread along its row. -/
def refRow (v : FVec Ideal S256 .f32) : FVec Ideal S256x8192 .f32 :=
  broadcastInDim S256x8192 ![0, 1] bcast_S256x1_S256x8192_0_1 (broadcastInDim S256x1 ![0] bcast_S256_S256x1_0 v)
/-- Its exponentials. -/
def refExp (d : FVec Ideal S256x8192 .f32) : FVec Ideal S256x8192 .f32 := Host.exp (subf d (refRow (refMax d)))
/-- The sums of its exponentials. -/
def refSum (e : FVec Ideal S256x8192 .f32) : FVec Ideal S256 .f32 :=
  Host.reduceAdd e (constant S_ .f32 0x00000000#32) reducesTo_S256x8192_S256_d1 h_S_
/-- The reference's result. -/
def refOut (x : FVec Ideal S256x512 .f32) (w : FVec Ideal S512x8192 .f32) : FVec Ideal S256x8192 .f32 :=
  Host.divf (refExp (refDot x w)) (refRow (refSum (refExp (refDot x w))))

/-- An entry of the reference's logits. -/
theorem refDot_at (x : FVec Ideal S256x512 .f32) (w : FVec Ideal S512x8192 .f32) (r : Fin 256) (j : Fin 8192) :
    refDot x w (ix2 r j) = ∑ k : Fin 512, x (ix2 r k) * w (ix2 k j) := by
  pointwise [refDot]
/-- A row's maximum. -/
theorem refMax_at (d : FVec Ideal S256x8192 .f32) (r : Fin 256) :
    refMax d (ix1 r) = Finset.univ.fold max ⊥ (fun k : Fin 8192 => d (ix2 r k)) := by
  pointwise [refMax, ofBits_neg_inf]
/-- An entry of a spread row. -/
theorem refRow_at (v : FVec Ideal S256 .f32) (r : Fin 256) (j : Fin 8192) : refRow v (ix2 r j) = v (ix1 r) := by
  pointwise [refRow]
/-- A row's sum. -/
theorem refSum_at (e : FVec Ideal S256x8192 .f32) (r : Fin 256) : refSum e (ix1 r) = ∑ k : Fin 8192, e (ix2 r k) := by
  pointwise [refSum]

/-- An entry of a quotient of arrays. -/
theorem quot_at (p q : FVec Ideal S256x8192 .f32) (i : S256x8192.Idx) : Host.divf p q i = Ideal.div (p i) (q i) := rfl
/-- An entry of the result is a quotient. -/
theorem refOut_div (x : FVec Ideal S256x512 .f32) (w : FVec Ideal S512x8192 .f32) (i : S256x8192.Idx) :
    refOut x w i = Ideal.div (refExp (refDot x w) i) (refRow (refSum (refExp (refDot x w))) i) := by
  unfold refOut; exact quot_at _ _ i

variable (a : S256x512.Idx → ℝ) (b : S512x8192.Idx → ℝ)
variable (x : FVec Ideal S256x512 .f32) (w : FVec Ideal S512x8192 .f32)
variable (hx : ∀ i, x i = (a i : EReal)) (hw : ∀ i, w i = (b i : EReal))
include hx hw

/-- Every logit of the reference is the real logit. -/
theorem refDot_real (r : Fin 256) (j : Fin 8192) : refDot x w (ix2 r j) = (logit a b r j.val : EReal) := by
  rw [refDot_at]
  unfold logit
  rw [coe_sum]
  refine Finset.sum_congr rfl fun k _ => ?_
  rw [EReal.coe_mul, hx, hw]
  refine congrArg (fun t : Fin 8192 => (a (ix2 r k) : EReal) * (b (ix2 k t) : EReal)) (Fin.ext ?_)
  exact (Nat.mod_eq_of_lt j.isLt).symm

/-- The reference's result: each exponential over its row's sum. -/
theorem refOut_at (r : Fin 256) (j : Fin 8192) :
    refOut x w (ix2 r j) = ((Real.exp (logit a b r j.val) / part a b r 0 8192 : ℝ) : EReal) := by
  obtain ⟨M, hM⟩ : ∃ M : ℝ, refMax (refDot x w) (ix1 r) = (M : EReal) := by
    rw [refMax_at]
    simp only [refDot_real a b x w hx hw]
    rcases fold_max_real (Finset.univ : Finset (Fin 8192)) (fun k => logit a b r k.val) with h | h
    · exact absurd h (Finset.univ_nonempty (α := Fin 8192)).ne_empty
    · exact h
  have hE : ∀ k : Fin 8192, refExp (refDot x w) (ix2 r k) = (Real.exp (logit a b r k.val - M) : EReal) := fun k => by
    have e : refExp (refDot x w) (ix2 r k) = Ideal.exp (refDot x w (ix2 r k) - refRow (refMax (refDot x w)) (ix2 r k)) := rfl
    rw [e, refRow_at, hM, refDot_real a b x w hx hw, ← EReal.coe_sub]
    rfl
  have hS : refSum (refExp (refDot x w)) (ix1 r) = ((part a b r 0 8192 * Real.exp (-M) : ℝ) : EReal) := by
    rw [refSum_at]
    simp only [hE]
    rw [← coe_sum]
    refine congrArg Real.toEReal ?_
    unfold part
    rw [Finset.sum_mul, ← Fin.sum_univ_eq_sum_range (fun t => Real.exp (logit a b r (0 + t)) * Real.exp (-M)) 8192]
    refine Finset.sum_congr rfl fun k _ => ?_
    rw [Nat.zero_add, ← Real.exp_add, sub_eq_add_neg]
  have hp : part a b r 0 8192 ≠ 0 := (part_pos r 0 8192 (by decide)).ne'
  have hm : Real.exp (-M) ≠ 0 := (Real.exp_pos _).ne'
  have q : Real.exp (logit a b r j.val - M) * (1 / (part a b r 0 8192 * Real.exp (-M)))
      = Real.exp (logit a b r j.val) / part a b r 0 8192 := by
    rw [sub_eq_add_neg, Real.exp_add, mul_one_div, mul_div_mul_right _ _ hm]
  rw [refOut_div, refRow_at, hE, hS, Ideal.div_coe (mul_ne_zero hp hm), ← EReal.coe_mul]
  exact congrArg Real.toEReal q

end Term

end Cert.SoftmaxProof

end
-- ==== Proof.Values.lean ====
/-
The claims about the reference, and the value claim: over the extended reals, from finite inputs, every device's result is
the reference's.
-/
module

public import proofs.«01_k».proof.Proof.Result
public import proofs.«01_k».proof.Proof.RealInputs
public import proofs.«01_k».proof.Proof.RealReference
public import proofs.«01_k».proof.Proof.Gen.ReferenceIdeal.Run
public import proofs.«01_k».proof.Proof.Gen.Pre_finite_ReferenceIdeal
public import Idealize.ShloMosaic.Lib.Quiescent

@[expose] public section

noncomputable section

namespace Cert.SoftmaxProof

open Idealize.ShloMosaic Idealize.ShloMosaic.TcCoe
open Idealize.SL.Sem

/-- The reference leaves its arguments as they were, with every semaphore at zero: it declares none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of finite arguments. -/
theorem frame_reference_finite : Cert.quiescent_ReferenceIdeal_pre_finite_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The device that holds a column of the whole weights. -/
def holder (j : Fin 8192) : Dev Cert.KernelIdeal.nD := ⟨j.val / 4096, by have h := j.isLt; show _ < 4; omega⟩

/-- From arrays of finite numbers and their parts on the devices, each device's result is the reference's. -/
theorem out_eq (X : Dev Cert.KernelIdeal.nD → Vec Ideal Cert.KernelIdeal.S256x512 .f32)
    (W : Dev Cert.KernelIdeal.nD → Vec Ideal Cert.KernelIdeal.S512x4096 .f32)
    (x : FVec Ideal Cert.ReferenceIdeal.S256x512 .f32) (w : FVec Ideal Cert.ReferenceIdeal.S512x8192 .f32)
    (hpre : ∀ c, Cert.Pre_finite_KernelIdeal.fn (F := Ideal) (X c) (W c) = fun _ => 1#1)
    (hx : ∀ c, X c = x)
    (hw : ∀ c, W c = (Layout.blockN ⟨2, ![512, 4096]⟩ ⟨2, ![512, 8192]⟩ (Layout.meshBlock [2, 2] ![[], [1]] c) w :
      (⟨2, ![512, 4096]⟩ : Shape).Idx → EReal))
    (c : Dev Cert.KernelIdeal.nD) : outD X W c = refOut x w := by
  have rx : ∀ i, x i = ((x i).toReal : EReal) := fun i => by
    have h := (pre_real _ _ (hpre 0)).1 i
    rw [hx 0] at h
    exact h
  have rw' : ∀ i, w i = ((w i).toReal : EReal) := fun i => by
    obtain ⟨k, j, rfl⟩ : ∃ (k : Fin 512) (j : Fin 8192), i = ix2 k j := ⟨i 0, i 1, eq_ix2 i⟩
    have hj := j.isLt
    have h := (pre_real _ _ (hpre (holder j))).2 (ix2 k ⟨j.val % 4096, Nat.mod_lt _ (by decide)⟩)
    rw [hw (holder j), block_at] at h
    have e : (⟨(4096 * ((holder j).val % 2) + (⟨j.val % 4096, Nat.mod_lt _ (by decide)⟩ : Fin 4096).val) % 8192,
        Nat.mod_lt _ (by decide)⟩ : Fin 8192) = j := Fin.ext (by
      show (4096 * (j.val / 4096 % 2) + j.val % 4096) % 8192 = j.val
      omega)
    rw [e] at h
    exact h
  have H : Inputs (fun i => (x i).toReal) (fun i => (w i).toReal) X W :=
    ⟨fun c i => by rw [hx c]; exact rx i, fun c k j => by rw [hw c, block_at]; exact rw' _⟩
  funext i
  obtain ⟨r, j, rfl⟩ : ∃ (r : Fin 256) (j : Fin 8192), i = ix2 r j := ⟨i 0, i 1, eq_ix2 i⟩
  exact (outD_at H c r j).trans (refOut_at _ _ x w rx rw' r j).symm

/-- The value claim. -/
theorem values : Cert.algebraic_KernelIdeal_ReferenceIdeal_pre_finite_KernelIdeal := by
  intro m ρ m' ρ' hpre hargs
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun r h c => ⟨(h c).1.trans ?_, (h c).2⟩) (run_value (F := Ideal) m ρ)
    exact out_eq (xArg m) (wArg m) _ _ hpre (fun c => (hargs c).1) (fun c => (hargs c).2) c
  · exact (θ_run Cert.ReferenceIdeal.defs _ _).mono (fun r h => h 0) (Cert.ReferenceIdeal.Value.run (F := Ideal) m' ρ')

end Cert.SoftmaxProof

end
-- ==== Proof.lean ====
/-
The certificate's claim, put together: the program, its idealization and the reference run, end and leave their arguments
and semaphores as they were; the idealization is the program's own text; and from finite inputs every device's result is the
reference's.
-/
module

public import proofs.«01_k».proof.Defs
public import proofs.«01_k».proof.Proof.Frames
public import proofs.«01_k».proof.Proof.Values

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.SoftmaxProof.frame_kernel, Cert.SoftmaxProof.frame_ideal,
    Cert.SoftmaxProof.frame_ideal_finite, Cert.SoftmaxProof.frame_reference, Cert.SoftmaxProof.frame_reference_finite,
    trivial, Cert.SoftmaxProof.values⟩

end Cert.Proof

end
